-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![8192, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S384x2048 : Shape := ⟨2, ![384, 2048]⟩
abbrev S256x2048 : Shape := ⟨2, ![256, 2048]⟩
abbrev S6x3 : Shape := ⟨2, ![6, 3]⟩
abbrev S6x2 : Shape := ⟨2, ![6, 2]⟩
abbrev S6 : Shape := ⟨1, ![6]⟩
abbrev S_ : Shape := ⟨0, ![]⟩
abbrev S192x1024 : Shape := ⟨2, ![192, 1024]⟩
abbrev S192x2048 : Shape := ⟨2, ![192, 2048]⟩
abbrev S1x1 : Shape := ⟨2, ![1, 1]⟩
abbrev S128x1024 : Shape := ⟨2, ![128, 1024]⟩
abbrev S128x2048 : Shape := ⟨2, ![128, 2048]⟩
abbrev S96x2048 : Shape := ⟨2, ![96, 2048]⟩
abbrev S64x2048 : Shape := ⟨2, ![64, 2048]⟩
abbrev S1 : Shape := ⟨1, ![1]⟩

abbrev nBuf : Space → Nat
  | .hbm => 3
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .local _ .vmem, ⟨0, _⟩ => ⟨S2048x1024, .f32⟩
  | .local _ .vmem, ⟨1, _⟩ => ⟨S1024x2048, .f32⟩
  | .local _ .vmem, ⟨2, _⟩ => ⟨S2048x2048, .bf16⟩
  | .local _ .vmem, ⟨3, _⟩ => ⟨S1024x2048, .bf16⟩
  | .local _ .vmem, ⟨4, _⟩ => ⟨S2048x2048, .f32⟩
  | .local _ .vmem, ⟨5, _⟩ => ⟨S384x2048, .bf16⟩
  | .local _ .vmem, ⟨6, _⟩ => ⟨S384x2048, .bf16⟩
  | .local _ .vmem, ⟨7, _⟩ => ⟨S384x2048, .bf16⟩
  | .local _ .vmem, ⟨8, _⟩ => ⟨S384x2048, .bf16⟩
  | .local _ .vmem, ⟨9, _⟩ => ⟨S256x2048, .bf16⟩
  | .local _ .vmem, ⟨10, _⟩ => ⟨S256x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c0_i32_16 : BitVec 32) : Fin 2 → Nat :=
  let c1_i32_15 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v19 : BitVec 32 := Scalar.shrsi v2 c1_i32_13
  let v20 : BitVec 32 := Scalar.xori v2 v19
  let c1_i32_14 : BitVec 32 := 1#32
  let v21 : BitVec 32 := Scalar.andi v20 c1_i32_14
  let v22 : BitVec 32 := Scalar.subi c1_i32_15 v21
  let c192_i32 : BitVec 32 := 192#32
  let v23 : BitVec 32 := Scalar.muli v22 c192_i32
  let v24 : BitVec 32 := Scalar.addi c0_i32_16 v23
  let v25 : Index := Scalar.indexCast v24
  let c0_17 : Index := 0#32
  ![v25.toNat, 0]
def k0_off2 (d0 : Dev nD) (c0_i32_16 : BitVec 32) : Fin 2 → Nat :=
  let c1_i32_15 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v19 : BitVec 32 := Scalar.shrsi v2 c1_i32_13
  let v20 : BitVec 32 := Scalar.xori v2 v19
  let c1_i32_14 : BitVec 32 := 1#32
  let v21 : BitVec 32 := Scalar.andi v20 c1_i32_14
  let v22 : BitVec 32 := Scalar.subi c1_i32_15 v21
  let c192_i32 : BitVec 32 := 192#32
  let v23 : BitVec 32 := Scalar.muli v22 c192_i32
  let v24 : BitVec 32 := Scalar.addi c0_i32_16 v23
  let v32 : Index := Scalar.indexCast v24
  let c0_20 : Index := 0#32
  ![v32.toNat, 0]
def k0_off3 (d0 : Dev nD) (c0_i32_16 : BitVec 32) : Fin 2 → Nat :=
  let c1_i32_15 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v19 : BitVec 32 := Scalar.shrsi v2 c1_i32_13
  let v20 : BitVec 32 := Scalar.xori v2 v19
  let c1_i32_14 : BitVec 32 := 1#32
  let v21 : BitVec 32 := Scalar.andi v20 c1_i32_14
  let v22 : BitVec 32 := Scalar.subi c1_i32_15 v21
  let c192_i32 : BitVec 32 := 192#32
  let v23 : BitVec 32 := Scalar.muli v22 c192_i32
  let v24 : BitVec 32 := Scalar.addi c0_i32_16 v23
  let c0_i32_30 : BitVec 32 := 0#32
  ![v24.toNat, 0]
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_21 : BitVec 32 := 1#32
  let v36 : BitVec 32 := Scalar.xori v2 c1_i32_21
  let c1_i32_26 : BitVec 32 := 1#32
  let v37 : BitVec 32 := Scalar.muli v36 c1_i32_26
  let v38 : BitVec 32 := Scalar.addi c0_i32_27 v37
  v38.toNat
def k0_off4 (d0 : Dev nD) (c384_i32 : BitVec 32) (c1_i32_33 : BitVec 32) : Fin 2 → Nat :=
  let c1_i32_35 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v47 : BitVec 32 := Scalar.shrsi v2 c1_i32_33
  let c1_i32_34 : BitVec 32 := 1#32
  let v48 : BitVec 32 := Scalar.andi v47 c1_i32_34
  let v49 : BitVec 32 := Scalar.subi c1_i32_35 v48
  let c192_i32_36 : BitVec 32 := 192#32
  let v50 : BitVec 32 := Scalar.muli v49 c192_i32_36
  let v51 : BitVec 32 := Scalar.addi c384_i32 v50
  let v52 : Index := Scalar.indexCast v51
  let c0_37 : Index := 0#32
  ![v52.toNat, 0]
def k0_off4_at (r : Fin 2) : BitVec 32 × BitVec 32 :=
  if r.val < 1 then
    (384#32, 1#32)
  else
    (768#32, 2#32)
def k0_off5 (d0 : Dev nD) (c384_i32 : BitVec 32) (c1_i32_33 : BitVec 32) : Fin 2 → Nat :=
  let c1_i32_35 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v47 : BitVec 32 := Scalar.shrsi v2 c1_i32_33
  let c1_i32_34 : BitVec 32 := 1#32
  let v48 : BitVec 32 := Scalar.andi v47 c1_i32_34
  let v49 : BitVec 32 := Scalar.subi c1_i32_35 v48
  let c192_i32_36 : BitVec 32 := 192#32
  let v50 : BitVec 32 := Scalar.muli v49 c192_i32_36
  let v51 : BitVec 32 := Scalar.addi c384_i32 v50
  let v59 : Index := Scalar.indexCast v51
  let c0_41 : Index := 0#32
  ![v59.toNat, 0]
def k0_off5_at (r : Fin 2) : BitVec 32 × BitVec 32 :=
  if r.val < 1 then
    (384#32, 1#32)
  else
    (768#32, 2#32)
def k0_off6 (d0 : Dev nD) (c384_i32 : BitVec 32) (c1_i32_33 : BitVec 32) : Fin 2 → Nat :=
  let c1_i32_35 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v47 : BitVec 32 := Scalar.shrsi v2 c1_i32_33
  let c1_i32_34 : BitVec 32 := 1#32
  let v48 : BitVec 32 := Scalar.andi v47 c1_i32_34
  let v49 : BitVec 32 := Scalar.subi c1_i32_35 v48
  let c192_i32_36 : BitVec 32 := 192#32
  let v50 : BitVec 32 := Scalar.muli v49 c192_i32_36
  let v51 : BitVec 32 := Scalar.addi c384_i32 v50
  let c0_i32_51 : BitVec 32 := 0#32
  ![v51.toNat, 0]
def k0_off6_at (r : Fin 2) : BitVec 32 × BitVec 32 :=
  if r.val < 1 then
    (384#32, 1#32)
  else
    (768#32, 2#32)
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_42 : BitVec 32 := 3#32
  let v63 : BitVec 32 := Scalar.xori v2 c3_i32_42
  let c1_i32_47 : BitVec 32 := 1#32
  let v64 : BitVec 32 := Scalar.muli v63 c1_i32_47
  let v65 : BitVec 32 := Scalar.addi c0_i32_48 v64
  v65.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_62 : BitVec 32 := 4#32
  let v90 : BitVec 32 := Scalar.xori v2 c4_i32_62
  let c1_i32_67 : BitVec 32 := 1#32
  let v91 : BitVec 32 := Scalar.muli v90 c1_i32_67
  let v92 : BitVec 32 := Scalar.addi c0_i32_68 v91
  v92.toNat
def k0_dev7 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_83 : BitVec 32 := 1#32
  let v118 : BitVec 32 := Scalar.xori v2 c1_i32_83
  let c1_i32_88 : BitVec 32 := 1#32
  let v119 : BitVec 32 := Scalar.muli v118 c1_i32_88
  let v120 : BitVec 32 := Scalar.addi c0_i32_89 v119
  v120.toNat
def k0_off7 (d0 : Dev nD) (c1536_i32 : BitVec 32) (c1_i32_95 : BitVec 32) : Fin 2 → Nat :=
  let c1_i32_97 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v129 : BitVec 32 := Scalar.shrsi v2 c1_i32_95
  let c1_i32_96 : BitVec 32 := 1#32
  let v130 : BitVec 32 := Scalar.andi v129 c1_i32_96
  let v131 : BitVec 32 := Scalar.subi c1_i32_97 v130
  let c128_i32 : BitVec 32 := 128#32
  let v132 : BitVec 32 := Scalar.muli v131 c128_i32
  let v133 : BitVec 32 := Scalar.addi c1536_i32 v132
  let v134 : Index := Scalar.indexCast v133
  let c0_98 : Index := 0#32
  ![v134.toNat, 0]
def k0_off7_at (r : Fin 2) : BitVec 32 × BitVec 32 :=
  if r.val < 1 then
    (1536#32, 1#32)
  else
    (1792#32, 2#32)
def k0_off8 (d0 : Dev nD) (c1536_i32 : BitVec 32) (c1_i32_95 : BitVec 32) : Fin 2 → Nat :=
  let c1_i32_97 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v129 : BitVec 32 := Scalar.shrsi v2 c1_i32_95
  let c1_i32_96 : BitVec 32 := 1#32
  let v130 : BitVec 32 := Scalar.andi v129 c1_i32_96
  let v131 : BitVec 32 := Scalar.subi c1_i32_97 v130
  let c128_i32 : BitVec 32 := 128#32
  let v132 : BitVec 32 := Scalar.muli v131 c128_i32
  let v133 : BitVec 32 := Scalar.addi c1536_i32 v132
  let v141 : Index := Scalar.indexCast v133
  let c0_102 : Index := 0#32
  ![v141.toNat, 0]
def k0_off8_at (r : Fin 2) : BitVec 32 × BitVec 32 :=
  if r.val < 1 then
    (1536#32, 1#32)
  else
    (1792#32, 2#32)
def k0_off9 (d0 : Dev nD) (c1536_i32 : BitVec 32) (c1_i32_95 : BitVec 32) : Fin 2 → Nat :=
  let c1_i32_97 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v129 : BitVec 32 := Scalar.shrsi v2 c1_i32_95
  let c1_i32_96 : BitVec 32 := 1#32
  let v130 : BitVec 32 := Scalar.andi v129 c1_i32_96
  let v131 : BitVec 32 := Scalar.subi c1_i32_97 v130
  let c128_i32 : BitVec 32 := 128#32
  let v132 : BitVec 32 := Scalar.muli v131 c128_i32
  let v133 : BitVec 32 := Scalar.addi c1536_i32 v132
  let c0_i32_112 : BitVec 32 := 0#32
  ![v133.toNat, 0]
def k0_off9_at (r : Fin 2) : BitVec 32 × BitVec 32 :=
  if r.val < 1 then
    (1536#32, 1#32)
  else
    (1792#32, 2#32)
def k0_dev8 (d0 : Dev nD) : Nat :=
  let c0_i32_109 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_103 : BitVec 32 := 3#32
  let v145 : BitVec 32 := Scalar.xori v2 c3_i32_103
  let c1_i32_108 : BitVec 32 := 1#32
  let v146 : BitVec 32 := Scalar.muli v145 c1_i32_108
  let v147 : BitVec 32 := Scalar.addi c0_i32_109 v146
  v147.toNat
def k0_dev9 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_124 : BitVec 32 := 4#32
  let v172 : BitVec 32 := Scalar.xori v2 c4_i32_124
  let c1_i32_128 : BitVec 32 := 1#32
  let v173 : BitVec 32 := Scalar.muli v172 c1_i32_128
  let v174 : BitVec 32 := Scalar.addi c0_i32_129 v173
  v174.toNat
def k0_off10 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v19 : BitVec 32 := Scalar.shrsi v2 c1_i32_13
  let v20 : BitVec 32 := Scalar.xori v2 v19
  let c1_i32_14 : BitVec 32 := 1#32
  let v21 : BitVec 32 := Scalar.andi v20 c1_i32_14
  let c192_i32_31 : BitVec 32 := 192#32
  let v45 : BitVec 32 := Scalar.muli v21 c192_i32_31
  let v46 : BitVec 32 := Scalar.addi c0_i32_32 v45
  let v183 : Index := Scalar.indexCast v46
  let c0_135 : Index := 0#32
  ![v183.toNat, 0]
def k0_off11 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v19 : BitVec 32 := Scalar.shrsi v2 c1_i32_13
  let v20 : BitVec 32 := Scalar.xori v2 v19
  let c1_i32_14 : BitVec 32 := 1#32
  let v21 : BitVec 32 := Scalar.andi v20 c1_i32_14
  let c192_i32_31 : BitVec 32 := 192#32
  let v45 : BitVec 32 := Scalar.muli v21 c192_i32_31
  let v46 : BitVec 32 := Scalar.addi c0_i32_32 v45
  let v190 : Index := Scalar.indexCast v46
  let c0_139 : Index := 0#32
  ![v190.toNat, 0]
def k0_off12 (d0 : Dev nD) (c384_i32_53 : BitVec 32) (c1_i32_33 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v47 : BitVec 32 := Scalar.shrsi v2 c1_i32_33
  let c1_i32_34 : BitVec 32 := 1#32
  let v48 : BitVec 32 := Scalar.andi v47 c1_i32_34
  let c192_i32_52 : BitVec 32 := 192#32
  let v72 : BitVec 32 := Scalar.muli v48 c192_i32_52
  let v73 : BitVec 32 := Scalar.addi c384_i32_53 v72
  let v194 : Index := Scalar.indexCast v73
  let c0_140 : Index := 0#32
  ![v194.toNat, 0]
def k0_off12_at (r : Fin 2) : BitVec 32 × BitVec 32 :=
  if r.val < 1 then
    (384#32, 1#32)
  else
    (768#32, 2#32)
def k0_off13 (d0 : Dev nD) (c384_i32_53 : BitVec 32) (c1_i32_33 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v47 : BitVec 32 := Scalar.shrsi v2 c1_i32_33
  let c1_i32_34 : BitVec 32 := 1#32
  let v48 : BitVec 32 := Scalar.andi v47 c1_i32_34
  let c192_i32_52 : BitVec 32 := 192#32
  let v72 : BitVec 32 := Scalar.muli v48 c192_i32_52
  let v73 : BitVec 32 := Scalar.addi c384_i32_53 v72
  let v201 : Index := Scalar.indexCast v73
  let c0_144 : Index := 0#32
  ![v201.toNat, 0]
def k0_off13_at (r : Fin 2) : BitVec 32 × BitVec 32 :=
  if r.val < 1 then
    (384#32, 1#32)
  else
    (768#32, 2#32)
def k0_off14 (d0 : Dev nD) (c1536_i32_114 : BitVec 32) (c1_i32_95 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v129 : BitVec 32 := Scalar.shrsi v2 c1_i32_95
  let c1_i32_96 : BitVec 32 := 1#32
  let v130 : BitVec 32 := Scalar.andi v129 c1_i32_96
  let c128_i32_113 : BitVec 32 := 128#32
  let v154 : BitVec 32 := Scalar.muli v130 c128_i32_113
  let v155 : BitVec 32 := Scalar.addi c1536_i32_114 v154
  let v227 : Index := Scalar.indexCast v155
  let c0_155 : Index := 0#32
  ![v227.toNat, 0]
def k0_off14_at (r : Fin 2) : BitVec 32 × BitVec 32 :=
  if r.val < 1 then
    (1536#32, 1#32)
  else
    (1792#32, 2#32)
def k0_off15 (d0 : Dev nD) (c1536_i32_114 : BitVec 32) (c1_i32_95 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v129 : BitVec 32 := Scalar.shrsi v2 c1_i32_95
  let c1_i32_96 : BitVec 32 := 1#32
  let v130 : BitVec 32 := Scalar.andi v129 c1_i32_96
  let c128_i32_113 : BitVec 32 := 128#32
  let v154 : BitVec 32 := Scalar.muli v130 c128_i32_113
  let v155 : BitVec 32 := Scalar.addi c1536_i32_114 v154
  let v234 : Index := Scalar.indexCast v155
  let c0_159 : Index := 0#32
  ![v234.toNat, 0]
def k0_off15_at (r : Fin 2) : BitVec 32 × BitVec 32 :=
  if r.val < 1 then
    (1536#32, 1#32)
  else
    (1792#32, 2#32)
def k0_off16 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v19 : BitVec 32 := Scalar.shrsi v2 c1_i32_13
  let v20 : BitVec 32 := Scalar.xori v2 v19
  let c1_i32_14 : BitVec 32 := 1#32
  let v21 : BitVec 32 := Scalar.andi v20 c1_i32_14
  let c192_i32_31 : BitVec 32 := 192#32
  let v45 : BitVec 32 := Scalar.muli v21 c192_i32_31
  let v46 : BitVec 32 := Scalar.addi c0_i32_32 v45
  let c1_i32_188 : BitVec 32 := 1#32
  let c1_i32_186 : BitVec 32 := 1#32
  let v267 : BitVec 32 := Scalar.shrsi v2 c1_i32_186
  let c1_i32_187 : BitVec 32 := 1#32
  let v268 : BitVec 32 := Scalar.andi v267 c1_i32_187
  let v269 : BitVec 32 := Scalar.subi c1_i32_188 v268
  let c96_i32 : BitVec 32 := 96#32
  let v270 : BitVec 32 := Scalar.muli v269 c96_i32
  let v271 : BitVec 32 := Scalar.addi v46 v270
  let c0_i32_198 : BitVec 32 := 0#32
  ![v271.toNat, 0]
def k0_dev10 (d0 : Dev nD) : Nat :=
  let c0_i32_195 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_189 : BitVec 32 := 3#32
  let v272 : BitVec 32 := Scalar.xori v2 c3_i32_189
  let c1_i32_194 : BitVec 32 := 1#32
  let v273 : BitVec 32 := Scalar.muli v272 c1_i32_194
  let v274 : BitVec 32 := Scalar.addi c0_i32_195 v273
  v274.toNat
def k0_off17 (d0 : Dev nD) : Fin 2 → Nat :=
  let c384_i32_53 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v47 : BitVec 32 := Scalar.shrsi v2 c1_i32_33
  let c1_i32_34 : BitVec 32 := 1#32
  let v48 : BitVec 32 := Scalar.andi v47 c1_i32_34
  let c192_i32_52 : BitVec 32 := 192#32
  let v72 : BitVec 32 := Scalar.muli v48 c192_i32_52
  let v73 : BitVec 32 := Scalar.addi c384_i32_53 v72
  let c1_i32_224 : BitVec 32 := 1#32
  let c2_i32_222 : BitVec 32 := 2#32
  let v303 : BitVec 32 := Scalar.shrsi v2 c2_i32_222
  let c1_i32_223 : BitVec 32 := 1#32
  let v304 : BitVec 32 := Scalar.andi v303 c1_i32_223
  let v305 : BitVec 32 := Scalar.subi c1_i32_224 v304
  let c96_i32_225 : BitVec 32 := 96#32
  let v306 : BitVec 32 := Scalar.muli v305 c96_i32_225
  let v307 : BitVec 32 := Scalar.addi v73 v306
  let c0_i32_235 : BitVec 32 := 0#32
  ![v307.toNat, 0]
def k0_dev11 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_226 : BitVec 32 := 4#32
  let v308 : BitVec 32 := Scalar.xori v2 c4_i32_226
  let c1_i32_231 : BitVec 32 := 1#32
  let v309 : BitVec 32 := Scalar.muli v308 c1_i32_231
  let v310 : BitVec 32 := Scalar.addi c0_i32_232 v309
  v310.toNat
def k0_off18 (d0 : Dev nD) : Fin 2 → Nat :=
  let c768_i32_73 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v74 : BitVec 32 := Scalar.shrsi v2 c2_i32
  let c1_i32_54 : BitVec 32 := 1#32
  let v75 : BitVec 32 := Scalar.andi v74 c1_i32_54
  let c192_i32_72 : BitVec 32 := 192#32
  let v99 : BitVec 32 := Scalar.muli v75 c192_i32_72
  let v100 : BitVec 32 := Scalar.addi c768_i32_73 v99
  let c1_i32_261 : BitVec 32 := 1#32
  let c1_i32_259 : BitVec 32 := 1#32
  let v339 : BitVec 32 := Scalar.shrsi v2 c1_i32_259
  let v340 : BitVec 32 := Scalar.xori v2 v339
  let c1_i32_260 : BitVec 32 := 1#32
  let v341 : BitVec 32 := Scalar.andi v340 c1_i32_260
  let v342 : BitVec 32 := Scalar.subi c1_i32_261 v341
  let c96_i32_262 : BitVec 32 := 96#32
  let v343 : BitVec 32 := Scalar.muli v342 c96_i32_262
  let v344 : BitVec 32 := Scalar.addi v100 v343
  let c0_i32_272 : BitVec 32 := 0#32
  ![v344.toNat, 0]
def k0_dev12 (d0 : Dev nD) : Nat :=
  let c0_i32_269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_263 : BitVec 32 := 1#32
  let v345 : BitVec 32 := Scalar.xori v2 c1_i32_263
  let c1_i32_268 : BitVec 32 := 1#32
  let v346 : BitVec 32 := Scalar.muli v345 c1_i32_268
  let v347 : BitVec 32 := Scalar.addi c0_i32_269 v346
  v347.toNat
def k0_dev13 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_300 : BitVec 32 := 3#32
  let v381 : BitVec 32 := Scalar.xori v2 c3_i32_300
  let c1_i32_305 : BitVec 32 := 1#32
  let v382 : BitVec 32 := Scalar.muli v381 c1_i32_305
  let v383 : BitVec 32 := Scalar.addi c0_i32_306 v382
  v383.toNat
def k0_off19 (d0 : Dev nD) : Fin 2 → Nat :=
  let c1536_i32_114 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_95 : BitVec 32 := 1#32
  let v129 : BitVec 32 := Scalar.shrsi v2 c1_i32_95
  let c1_i32_96 : BitVec 32 := 1#32
  let v130 : BitVec 32 := Scalar.andi v129 c1_i32_96
  let c128_i32_113 : BitVec 32 := 128#32
  let v154 : BitVec 32 := Scalar.muli v130 c128_i32_113
  let v155 : BitVec 32 := Scalar.addi c1536_i32_114 v154
  let c1_i32_335 : BitVec 32 := 1#32
  let c2_i32_333 : BitVec 32 := 2#32
  let v412 : BitVec 32 := Scalar.shrsi v2 c2_i32_333
  let c1_i32_334 : BitVec 32 := 1#32
  let v413 : BitVec 32 := Scalar.andi v412 c1_i32_334
  let v414 : BitVec 32 := Scalar.subi c1_i32_335 v413
  let c64_i32 : BitVec 32 := 64#32
  let v415 : BitVec 32 := Scalar.muli v414 c64_i32
  let v416 : BitVec 32 := Scalar.addi v155 v415
  let c0_i32_345 : BitVec 32 := 0#32
  ![v416.toNat, 0]
def k0_dev14 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_336 : BitVec 32 := 4#32
  let v417 : BitVec 32 := Scalar.xori v2 c4_i32_336
  let c1_i32_341 : BitVec 32 := 1#32
  let v418 : BitVec 32 := Scalar.muli v417 c1_i32_341
  let v419 : BitVec 32 := Scalar.addi c0_i32_342 v418
  v419.toNat
def k0_off20 (d0 : Dev nD) : Fin 2 → Nat :=
  let c1792_i32_134 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_115 : BitVec 32 := 2#32
  let v156 : BitVec 32 := Scalar.shrsi v2 c2_i32_115
  let c1_i32_116 : BitVec 32 := 1#32
  let v157 : BitVec 32 := Scalar.andi v156 c1_i32_116
  let c128_i32_133 : BitVec 32 := 128#32
  let v181 : BitVec 32 := Scalar.muli v157 c128_i32_133
  let v182 : BitVec 32 := Scalar.addi c1792_i32_134 v181
  let c1_i32_371 : BitVec 32 := 1#32
  let c1_i32_369 : BitVec 32 := 1#32
  let v448 : BitVec 32 := Scalar.shrsi v2 c1_i32_369
  let v449 : BitVec 32 := Scalar.xori v2 v448
  let c1_i32_370 : BitVec 32 := 1#32
  let v450 : BitVec 32 := Scalar.andi v449 c1_i32_370
  let v451 : BitVec 32 := Scalar.subi c1_i32_371 v450
  let c64_i32_372 : BitVec 32 := 64#32
  let v452 : BitVec 32 := Scalar.muli v451 c64_i32_372
  let v453 : BitVec 32 := Scalar.addi v182 v452
  let c0_i32_382 : BitVec 32 := 0#32
  ![v453.toNat, 0]
def k0_dev15 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_373 : BitVec 32 := 1#32
  let v454 : BitVec 32 := Scalar.xori v2 c1_i32_373
  let c1_i32_378 : BitVec 32 := 1#32
  let v455 : BitVec 32 := Scalar.muli v454 c1_i32_378
  let v456 : BitVec 32 := Scalar.addi c0_i32_379 v455
  v456.toNat
def k0_off21 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v19 : BitVec 32 := Scalar.shrsi v2 c1_i32_13
  let v20 : BitVec 32 := Scalar.xori v2 v19
  let c1_i32_14 : BitVec 32 := 1#32
  let v21 : BitVec 32 := Scalar.andi v20 c1_i32_14
  let c192_i32_31 : BitVec 32 := 192#32
  let v45 : BitVec 32 := Scalar.muli v21 c192_i32_31
  let v46 : BitVec 32 := Scalar.addi c0_i32_32 v45
  let c1_i32_186 : BitVec 32 := 1#32
  let v267 : BitVec 32 := Scalar.shrsi v2 c1_i32_186
  let c1_i32_187 : BitVec 32 := 1#32
  let v268 : BitVec 32 := Scalar.andi v267 c1_i32_187
  let c96_i32_199 : BitVec 32 := 96#32
  let v281 : BitVec 32 := Scalar.muli v268 c96_i32_199
  let v282 : BitVec 32 := Scalar.addi v46 v281
  let v477 : Index := Scalar.indexCast v282
  let c0_402 : Index := 0#32
  ![v477.toNat, 0]
def k0_off22 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v19 : BitVec 32 := Scalar.shrsi v2 c1_i32_13
  let v20 : BitVec 32 := Scalar.xori v2 v19
  let c1_i32_14 : BitVec 32 := 1#32
  let v21 : BitVec 32 := Scalar.andi v20 c1_i32_14
  let c192_i32_31 : BitVec 32 := 192#32
  let v45 : BitVec 32 := Scalar.muli v21 c192_i32_31
  let v46 : BitVec 32 := Scalar.addi c0_i32_32 v45
  let c1_i32_186 : BitVec 32 := 1#32
  let v267 : BitVec 32 := Scalar.shrsi v2 c1_i32_186
  let c1_i32_187 : BitVec 32 := 1#32
  let v268 : BitVec 32 := Scalar.andi v267 c1_i32_187
  let c96_i32_199 : BitVec 32 := 96#32
  let v281 : BitVec 32 := Scalar.muli v268 c96_i32_199
  let v282 : BitVec 32 := Scalar.addi v46 v281
  let c0_i32_413 : BitVec 32 := 0#32
  ![v282.toNat, 0]
def k0_dev16 (d0 : Dev nD) : Nat :=
  let c0_i32_411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_405 : BitVec 32 := 4#32
  let v485 : BitVec 32 := Scalar.xori v2 c4_i32_405
  let c1_i32_410 : BitVec 32 := 1#32
  let v486 : BitVec 32 := Scalar.muli v485 c1_i32_410
  let v487 : BitVec 32 := Scalar.addi c0_i32_411 v486
  v487.toNat
def k0_off23 (d0 : Dev nD) : Fin 2 → Nat :=
  let c384_i32_53 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v47 : BitVec 32 := Scalar.shrsi v2 c1_i32_33
  let c1_i32_34 : BitVec 32 := 1#32
  let v48 : BitVec 32 := Scalar.andi v47 c1_i32_34
  let c192_i32_52 : BitVec 32 := 192#32
  let v72 : BitVec 32 := Scalar.muli v48 c192_i32_52
  let v73 : BitVec 32 := Scalar.addi c384_i32_53 v72
  let c2_i32_222 : BitVec 32 := 2#32
  let v303 : BitVec 32 := Scalar.shrsi v2 c2_i32_222
  let c1_i32_223 : BitVec 32 := 1#32
  let v304 : BitVec 32 := Scalar.andi v303 c1_i32_223
  let c96_i32_236 : BitVec 32 := 96#32
  let v317 : BitVec 32 := Scalar.muli v304 c96_i32_236
  let v318 : BitVec 32 := Scalar.addi v73 v317
  let v504 : Index := Scalar.indexCast v318
  let c0_431 : Index := 0#32
  ![v504.toNat, 0]
def k0_off24 (d0 : Dev nD) : Fin 2 → Nat :=
  let c384_i32_53 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v47 : BitVec 32 := Scalar.shrsi v2 c1_i32_33
  let c1_i32_34 : BitVec 32 := 1#32
  let v48 : BitVec 32 := Scalar.andi v47 c1_i32_34
  let c192_i32_52 : BitVec 32 := 192#32
  let v72 : BitVec 32 := Scalar.muli v48 c192_i32_52
  let v73 : BitVec 32 := Scalar.addi c384_i32_53 v72
  let c2_i32_222 : BitVec 32 := 2#32
  let v303 : BitVec 32 := Scalar.shrsi v2 c2_i32_222
  let c1_i32_223 : BitVec 32 := 1#32
  let v304 : BitVec 32 := Scalar.andi v303 c1_i32_223
  let c96_i32_236 : BitVec 32 := 96#32
  let v317 : BitVec 32 := Scalar.muli v304 c96_i32_236
  let v318 : BitVec 32 := Scalar.addi v73 v317
  let c0_i32_444 : BitVec 32 := 0#32
  ![v318.toNat, 0]
def k0_dev17 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_435 : BitVec 32 := 1#32
  let v512 : BitVec 32 := Scalar.xori v2 c1_i32_435
  let c1_i32_440 : BitVec 32 := 1#32
  let v513 : BitVec 32 := Scalar.muli v512 c1_i32_440
  let v514 : BitVec 32 := Scalar.addi c0_i32_441 v513
  v514.toNat
def k0_off25 (d0 : Dev nD) : Fin 2 → Nat :=
  let c768_i32_73 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v74 : BitVec 32 := Scalar.shrsi v2 c2_i32
  let c1_i32_54 : BitVec 32 := 1#32
  let v75 : BitVec 32 := Scalar.andi v74 c1_i32_54
  let c192_i32_72 : BitVec 32 := 192#32
  let v99 : BitVec 32 := Scalar.muli v75 c192_i32_72
  let v100 : BitVec 32 := Scalar.addi c768_i32_73 v99
  let c1_i32_259 : BitVec 32 := 1#32
  let v339 : BitVec 32 := Scalar.shrsi v2 c1_i32_259
  let v340 : BitVec 32 := Scalar.xori v2 v339
  let c1_i32_260 : BitVec 32 := 1#32
  let v341 : BitVec 32 := Scalar.andi v340 c1_i32_260
  let c96_i32_273 : BitVec 32 := 96#32
  let v354 : BitVec 32 := Scalar.muli v341 c96_i32_273
  let v355 : BitVec 32 := Scalar.addi v100 v354
  let v531 : Index := Scalar.indexCast v355
  let c0_462 : Index := 0#32
  ![v531.toNat, 0]
def k0_off26 (d0 : Dev nD) : Fin 2 → Nat :=
  let c768_i32_73 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v74 : BitVec 32 := Scalar.shrsi v2 c2_i32
  let c1_i32_54 : BitVec 32 := 1#32
  let v75 : BitVec 32 := Scalar.andi v74 c1_i32_54
  let c192_i32_72 : BitVec 32 := 192#32
  let v99 : BitVec 32 := Scalar.muli v75 c192_i32_72
  let v100 : BitVec 32 := Scalar.addi c768_i32_73 v99
  let c1_i32_259 : BitVec 32 := 1#32
  let v339 : BitVec 32 := Scalar.shrsi v2 c1_i32_259
  let v340 : BitVec 32 := Scalar.xori v2 v339
  let c1_i32_260 : BitVec 32 := 1#32
  let v341 : BitVec 32 := Scalar.andi v340 c1_i32_260
  let c96_i32_273 : BitVec 32 := 96#32
  let v354 : BitVec 32 := Scalar.muli v341 c96_i32_273
  let v355 : BitVec 32 := Scalar.addi v100 v354
  let c0_i32_475 : BitVec 32 := 0#32
  ![v355.toNat, 0]
def k0_dev18 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_466 : BitVec 32 := 3#32
  let v539 : BitVec 32 := Scalar.xori v2 c3_i32_466
  let c1_i32_471 : BitVec 32 := 1#32
  let v540 : BitVec 32 := Scalar.muli v539 c1_i32_471
  let v541 : BitVec 32 := Scalar.addi c0_i32_472 v540
  v541.toNat
def k0_dev19 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_497 : BitVec 32 := 4#32
  let v566 : BitVec 32 := Scalar.xori v2 c4_i32_497
  let c1_i32_502 : BitVec 32 := 1#32
  let v567 : BitVec 32 := Scalar.muli v566 c1_i32_502
  let v568 : BitVec 32 := Scalar.addi c0_i32_503 v567
  v568.toNat
def k0_off27 (d0 : Dev nD) : Fin 2 → Nat :=
  let c1536_i32_114 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_95 : BitVec 32 := 1#32
  let v129 : BitVec 32 := Scalar.shrsi v2 c1_i32_95
  let c1_i32_96 : BitVec 32 := 1#32
  let v130 : BitVec 32 := Scalar.andi v129 c1_i32_96
  let c128_i32_113 : BitVec 32 := 128#32
  let v154 : BitVec 32 := Scalar.muli v130 c128_i32_113
  let v155 : BitVec 32 := Scalar.addi c1536_i32_114 v154
  let c2_i32_333 : BitVec 32 := 2#32
  let v412 : BitVec 32 := Scalar.shrsi v2 c2_i32_333
  let c1_i32_334 : BitVec 32 := 1#32
  let v413 : BitVec 32 := Scalar.andi v412 c1_i32_334
  let c64_i32_346 : BitVec 32 := 64#32
  let v426 : BitVec 32 := Scalar.muli v413 c64_i32_346
  let v427 : BitVec 32 := Scalar.addi v155 v426
  let v585 : Index := Scalar.indexCast v427
  let c0_524 : Index := 0#32
  ![v585.toNat, 0]
def k0_off28 (d0 : Dev nD) : Fin 2 → Nat :=
  let c1536_i32_114 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_95 : BitVec 32 := 1#32
  let v129 : BitVec 32 := Scalar.shrsi v2 c1_i32_95
  let c1_i32_96 : BitVec 32 := 1#32
  let v130 : BitVec 32 := Scalar.andi v129 c1_i32_96
  let c128_i32_113 : BitVec 32 := 128#32
  let v154 : BitVec 32 := Scalar.muli v130 c128_i32_113
  let v155 : BitVec 32 := Scalar.addi c1536_i32_114 v154
  let c2_i32_333 : BitVec 32 := 2#32
  let v412 : BitVec 32 := Scalar.shrsi v2 c2_i32_333
  let c1_i32_334 : BitVec 32 := 1#32
  let v413 : BitVec 32 := Scalar.andi v412 c1_i32_334
  let c64_i32_346 : BitVec 32 := 64#32
  let v426 : BitVec 32 := Scalar.muli v413 c64_i32_346
  let v427 : BitVec 32 := Scalar.addi v155 v426
  let c0_i32_536 : BitVec 32 := 0#32
  ![v427.toNat, 0]
def k0_dev20 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_527 : BitVec 32 := 1#32
  let v593 : BitVec 32 := Scalar.xori v2 c1_i32_527
  let c1_i32_532 : BitVec 32 := 1#32
  let v594 : BitVec 32 := Scalar.muli v593 c1_i32_532
  let v595 : BitVec 32 := Scalar.addi c0_i32_533 v594
  v595.toNat
def k0_off29 (d0 : Dev nD) : Fin 2 → Nat :=
  let c1792_i32_134 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_115 : BitVec 32 := 2#32
  let v156 : BitVec 32 := Scalar.shrsi v2 c2_i32_115
  let c1_i32_116 : BitVec 32 := 1#32
  let v157 : BitVec 32 := Scalar.andi v156 c1_i32_116
  let c128_i32_133 : BitVec 32 := 128#32
  let v181 : BitVec 32 := Scalar.muli v157 c128_i32_133
  let v182 : BitVec 32 := Scalar.addi c1792_i32_134 v181
  let c1_i32_369 : BitVec 32 := 1#32
  let v448 : BitVec 32 := Scalar.shrsi v2 c1_i32_369
  let v449 : BitVec 32 := Scalar.xori v2 v448
  let c1_i32_370 : BitVec 32 := 1#32
  let v450 : BitVec 32 := Scalar.andi v449 c1_i32_370
  let c64_i32_383 : BitVec 32 := 64#32
  let v463 : BitVec 32 := Scalar.muli v450 c64_i32_383
  let v464 : BitVec 32 := Scalar.addi v182 v463
  let v612 : Index := Scalar.indexCast v464
  let c0_554 : Index := 0#32
  ![v612.toNat, 0]
def k0_off30 (d0 : Dev nD) : Fin 2 → Nat :=
  let c1792_i32_134 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_115 : BitVec 32 := 2#32
  let v156 : BitVec 32 := Scalar.shrsi v2 c2_i32_115
  let c1_i32_116 : BitVec 32 := 1#32
  let v157 : BitVec 32 := Scalar.andi v156 c1_i32_116
  let c128_i32_133 : BitVec 32 := 128#32
  let v181 : BitVec 32 := Scalar.muli v157 c128_i32_133
  let v182 : BitVec 32 := Scalar.addi c1792_i32_134 v181
  let c1_i32_369 : BitVec 32 := 1#32
  let v448 : BitVec 32 := Scalar.shrsi v2 c1_i32_369
  let v449 : BitVec 32 := Scalar.xori v2 v448
  let c1_i32_370 : BitVec 32 := 1#32
  let v450 : BitVec 32 := Scalar.andi v449 c1_i32_370
  let c64_i32_383 : BitVec 32 := 64#32
  let v463 : BitVec 32 := Scalar.muli v450 c64_i32_383
  let v464 : BitVec 32 := Scalar.addi v182 v463
  let c0_i32_567 : BitVec 32 := 0#32
  ![v464.toNat, 0]
def k0_dev21 (d0 : Dev nD) : Nat :=
  let c0_i32_564 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_558 : BitVec 32 := 3#32
  let v620 : BitVec 32 := Scalar.xori v2 c3_i32_558
  let c1_i32_563 : BitVec 32 := 1#32
  let v621 : BitVec 32 := Scalar.muli v620 c1_i32_563
  let v622 : BitVec 32 := Scalar.addi c0_i32_564 v621
  v622.toNat
def k0_dev22 (d0 : Dev nD) : Nat :=
  let c0_i32_596 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_590 : BitVec 32 := 3#32
  let v656 : BitVec 32 := Scalar.xori v2 c3_i32_590
  let c1_i32_595 : BitVec 32 := 1#32
  let v657 : BitVec 32 := Scalar.muli v656 c1_i32_595
  let v658 : BitVec 32 := Scalar.addi c0_i32_596 v657
  v658.toNat
def k0_dev23 (d0 : Dev nD) : Nat :=
  let c0_i32_628 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_622 : BitVec 32 := 4#32
  let v692 : BitVec 32 := Scalar.xori v2 c4_i32_622
  let c1_i32_627 : BitVec 32 := 1#32
  let v693 : BitVec 32 := Scalar.muli v692 c1_i32_627
  let v694 : BitVec 32 := Scalar.addi c0_i32_628 v693
  v694.toNat
def k0_dev24 (d0 : Dev nD) : Nat :=
  let c0_i32_660 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_654 : BitVec 32 := 1#32
  let v728 : BitVec 32 := Scalar.xori v2 c1_i32_654
  let c1_i32_659 : BitVec 32 := 1#32
  let v729 : BitVec 32 := Scalar.muli v728 c1_i32_659
  let v730 : BitVec 32 := Scalar.addi c0_i32_660 v729
  v730.toNat
def k0_dev25 (d0 : Dev nD) : Nat :=
  let c0_i32_692 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_686 : BitVec 32 := 3#32
  let v764 : BitVec 32 := Scalar.xori v2 c3_i32_686
  let c1_i32_691 : BitVec 32 := 1#32
  let v765 : BitVec 32 := Scalar.muli v764 c1_i32_691
  let v766 : BitVec 32 := Scalar.addi c0_i32_692 v765
  v766.toNat
def k0_dev26 (d0 : Dev nD) : Nat :=
  let c0_i32_724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_718 : BitVec 32 := 4#32
  let v800 : BitVec 32 := Scalar.xori v2 c4_i32_718
  let c1_i32_723 : BitVec 32 := 1#32
  let v801 : BitVec 32 := Scalar.muli v800 c1_i32_723
  let v802 : BitVec 32 := Scalar.addi c0_i32_724 v801
  v802.toNat
def k0_dev27 (d0 : Dev nD) : Nat :=
  let c0_i32_756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_750 : BitVec 32 := 1#32
  let v836 : BitVec 32 := Scalar.xori v2 c1_i32_750
  let c1_i32_755 : BitVec 32 := 1#32
  let v837 : BitVec 32 := Scalar.muli v836 c1_i32_755
  let v838 : BitVec 32 := Scalar.addi c0_i32_756 v837
  v838.toNat
def k0_off31 (d0 : Dev nD) (c0_i32_32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_13 : BitVec 32 := 1#32
  let v19 : BitVec 32 := Scalar.shrsi v2 c1_i32_13
  let v20 : BitVec 32 := Scalar.xori v2 v19
  let c1_i32_14 : BitVec 32 := 1#32
  let v21 : BitVec 32 := Scalar.andi v20 c1_i32_14
  let c192_i32_31 : BitVec 32 := 192#32
  let v45 : BitVec 32 := Scalar.muli v21 c192_i32_31
  let v46 : BitVec 32 := Scalar.addi c0_i32_32 v45
  let c1_i32_186 : BitVec 32 := 1#32
  let v267 : BitVec 32 := Scalar.shrsi v2 c1_i32_186
  let c1_i32_187 : BitVec 32 := 1#32
  let v268 : BitVec 32 := Scalar.andi v267 c1_i32_187
  let c96_i32_200 : BitVec 32 := 96#32
  let v283 : BitVec 32 := Scalar.muli v268 c96_i32_200
  let v284 : BitVec 32 := Scalar.addi v46 v283
  let c1_i32_774 : BitVec 32 := 1#32
  let v855 : BitVec 32 := Scalar.shrsi v2 c1_i32_774
  let c1_i32_775 : BitVec 32 := 1#32
  let v856 : BitVec 32 := Scalar.andi v855 c1_i32_775
  let c96_i32_776 : BitVec 32 := 96#32
  let v857 : BitVec 32 := Scalar.muli v856 c96_i32_776
  let v858 : BitVec 32 := Scalar.subi v284 v857
  let c0_i32_784 : BitVec 32 := 0#32
  ![v858.toNat, 0]
def k0_dev28 (d0 : Dev nD) : Nat :=
  let c0_i32_783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_777 : BitVec 32 := 1#32
  let v859 : BitVec 32 := Scalar.xori v2 c1_i32_777
  let c1_i32_782 : BitVec 32 := 1#32
  let v860 : BitVec 32 := Scalar.muli v859 c1_i32_782
  let v861 : BitVec 32 := Scalar.addi c0_i32_783 v860
  v861.toNat
def k0_off32 (d0 : Dev nD) : Fin 2 → Nat :=
  let c384_i32_53 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_33 : BitVec 32 := 1#32
  let v47 : BitVec 32 := Scalar.shrsi v2 c1_i32_33
  let c1_i32_34 : BitVec 32 := 1#32
  let v48 : BitVec 32 := Scalar.andi v47 c1_i32_34
  let c192_i32_52 : BitVec 32 := 192#32
  let v72 : BitVec 32 := Scalar.muli v48 c192_i32_52
  let v73 : BitVec 32 := Scalar.addi c384_i32_53 v72
  let c2_i32_222 : BitVec 32 := 2#32
  let v303 : BitVec 32 := Scalar.shrsi v2 c2_i32_222
  let c1_i32_223 : BitVec 32 := 1#32
  let v304 : BitVec 32 := Scalar.andi v303 c1_i32_223
  let c96_i32_237 : BitVec 32 := 96#32
  let v319 : BitVec 32 := Scalar.muli v304 c96_i32_237
  let v320 : BitVec 32 := Scalar.addi v73 v319
  let c2_i32_801 : BitVec 32 := 2#32
  let v878 : BitVec 32 := Scalar.shrsi v2 c2_i32_801
  let c1_i32_802 : BitVec 32 := 1#32
  let v879 : BitVec 32 := Scalar.andi v878 c1_i32_802
  let c96_i32_803 : BitVec 32 := 96#32
  let v880 : BitVec 32 := Scalar.muli v879 c96_i32_803
  let v881 : BitVec 32 := Scalar.subi v320 v880
  let c0_i32_811 : BitVec 32 := 0#32
  ![v881.toNat, 0]
def k0_dev29 (d0 : Dev nD) : Nat :=
  let c0_i32_810 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_804 : BitVec 32 := 3#32
  let v882 : BitVec 32 := Scalar.xori v2 c3_i32_804
  let c1_i32_809 : BitVec 32 := 1#32
  let v883 : BitVec 32 := Scalar.muli v882 c1_i32_809
  let v884 : BitVec 32 := Scalar.addi c0_i32_810 v883
  v884.toNat
def k0_off33 (d0 : Dev nD) : Fin 2 → Nat :=
  let c768_i32_73 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v74 : BitVec 32 := Scalar.shrsi v2 c2_i32
  let c1_i32_54 : BitVec 32 := 1#32
  let v75 : BitVec 32 := Scalar.andi v74 c1_i32_54
  let c192_i32_72 : BitVec 32 := 192#32
  let v99 : BitVec 32 := Scalar.muli v75 c192_i32_72
  let v100 : BitVec 32 := Scalar.addi c768_i32_73 v99
  let c1_i32_259 : BitVec 32 := 1#32
  let v339 : BitVec 32 := Scalar.shrsi v2 c1_i32_259
  let v340 : BitVec 32 := Scalar.xori v2 v339
  let c1_i32_260 : BitVec 32 := 1#32
  let v341 : BitVec 32 := Scalar.andi v340 c1_i32_260
  let c96_i32_274 : BitVec 32 := 96#32
  let v356 : BitVec 32 := Scalar.muli v341 c96_i32_274
  let v357 : BitVec 32 := Scalar.addi v100 v356
  let c1_i32_828 : BitVec 32 := 1#32
  let v901 : BitVec 32 := Scalar.shrsi v2 c1_i32_828
  let v902 : BitVec 32 := Scalar.xori v2 v901
  let c1_i32_829 : BitVec 32 := 1#32
  let v903 : BitVec 32 := Scalar.andi v902 c1_i32_829
  let c96_i32_830 : BitVec 32 := 96#32
  let v904 : BitVec 32 := Scalar.muli v903 c96_i32_830
  let v905 : BitVec 32 := Scalar.subi v357 v904
  let c0_i32_838 : BitVec 32 := 0#32
  ![v905.toNat, 0]
def k0_dev30 (d0 : Dev nD) : Nat :=
  let c0_i32_837 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_831 : BitVec 32 := 4#32
  let v906 : BitVec 32 := Scalar.xori v2 c4_i32_831
  let c1_i32_836 : BitVec 32 := 1#32
  let v907 : BitVec 32 := Scalar.muli v906 c1_i32_836
  let v908 : BitVec 32 := Scalar.addi c0_i32_837 v907
  v908.toNat
def k0_dev31 (d0 : Dev nD) : Nat :=
  let c0_i32_864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_858 : BitVec 32 := 1#32
  let v929 : BitVec 32 := Scalar.xori v2 c1_i32_858
  let c1_i32_863 : BitVec 32 := 1#32
  let v930 : BitVec 32 := Scalar.muli v929 c1_i32_863
  let v931 : BitVec 32 := Scalar.addi c0_i32_864 v930
  v931.toNat
def k0_off34 (d0 : Dev nD) : Fin 2 → Nat :=
  let c1536_i32_114 : BitVec 32 := 1536#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_95 : BitVec 32 := 1#32
  let v129 : BitVec 32 := Scalar.shrsi v2 c1_i32_95
  let c1_i32_96 : BitVec 32 := 1#32
  let v130 : BitVec 32 := Scalar.andi v129 c1_i32_96
  let c128_i32_113 : BitVec 32 := 128#32
  let v154 : BitVec 32 := Scalar.muli v130 c128_i32_113
  let v155 : BitVec 32 := Scalar.addi c1536_i32_114 v154
  let c2_i32_333 : BitVec 32 := 2#32
  let v412 : BitVec 32 := Scalar.shrsi v2 c2_i32_333
  let c1_i32_334 : BitVec 32 := 1#32
  let v413 : BitVec 32 := Scalar.andi v412 c1_i32_334
  let c64_i32_347 : BitVec 32 := 64#32
  let v428 : BitVec 32 := Scalar.muli v413 c64_i32_347
  let v429 : BitVec 32 := Scalar.addi v155 v428
  let c2_i32_882 : BitVec 32 := 2#32
  let v948 : BitVec 32 := Scalar.shrsi v2 c2_i32_882
  let c1_i32_883 : BitVec 32 := 1#32
  let v949 : BitVec 32 := Scalar.andi v948 c1_i32_883
  let c64_i32_884 : BitVec 32 := 64#32
  let v950 : BitVec 32 := Scalar.muli v949 c64_i32_884
  let v951 : BitVec 32 := Scalar.subi v429 v950
  let c0_i32_892 : BitVec 32 := 0#32
  ![v951.toNat, 0]
def k0_dev32 (d0 : Dev nD) : Nat :=
  let c0_i32_891 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_885 : BitVec 32 := 3#32
  let v952 : BitVec 32 := Scalar.xori v2 c3_i32_885
  let c1_i32_890 : BitVec 32 := 1#32
  let v953 : BitVec 32 := Scalar.muli v952 c1_i32_890
  let v954 : BitVec 32 := Scalar.addi c0_i32_891 v953
  v954.toNat
def k0_off35 (d0 : Dev nD) : Fin 2 → Nat :=
  let c1792_i32_134 : BitVec 32 := 1792#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_115 : BitVec 32 := 2#32
  let v156 : BitVec 32 := Scalar.shrsi v2 c2_i32_115
  let c1_i32_116 : BitVec 32 := 1#32
  let v157 : BitVec 32 := Scalar.andi v156 c1_i32_116
  let c128_i32_133 : BitVec 32 := 128#32
  let v181 : BitVec 32 := Scalar.muli v157 c128_i32_133
  let v182 : BitVec 32 := Scalar.addi c1792_i32_134 v181
  let c1_i32_369 : BitVec 32 := 1#32
  let v448 : BitVec 32 := Scalar.shrsi v2 c1_i32_369
  let v449 : BitVec 32 := Scalar.xori v2 v448
  let c1_i32_370 : BitVec 32 := 1#32
  let v450 : BitVec 32 := Scalar.andi v449 c1_i32_370
  let c64_i32_384 : BitVec 32 := 64#32
  let v465 : BitVec 32 := Scalar.muli v450 c64_i32_384
  let v466 : BitVec 32 := Scalar.addi v182 v465
  let c1_i32_909 : BitVec 32 := 1#32
  let v971 : BitVec 32 := Scalar.shrsi v2 c1_i32_909
  let v972 : BitVec 32 := Scalar.xori v2 v971
  let c1_i32_910 : BitVec 32 := 1#32
  let v973 : BitVec 32 := Scalar.andi v972 c1_i32_910
  let c64_i32_911 : BitVec 32 := 64#32
  let v974 : BitVec 32 := Scalar.muli v973 c64_i32_911
  let v975 : BitVec 32 := Scalar.subi v466 v974
  let c0_i32_919 : BitVec 32 := 0#32
  ![v975.toNat, 0]
def k0_dev33 (d0 : Dev nD) : Nat :=
  let c0_i32_918 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_912 : BitVec 32 := 4#32
  let v976 : BitVec 32 := Scalar.xori v2 c4_i32_912
  let c1_i32_917 : BitVec 32 := 1#32
  let v977 : BitVec 32 := Scalar.muli v976 c1_i32_917
  let v978 : BitVec 32 := Scalar.addi c0_i32_918 v977
  v978.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Rows.lean ====
/-
# Rows of a two-axis buffer

The kernel moves blocks of whole rows. A block of rows is held as the elements of a range of rows of a memref, with
what the memref reads on them given by a function of the row and the column. Loads, stores and transfers of a block
of rows act on these.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.SiluProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline's part and the protocol's part, whose duties are named by `Fin 3`. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The shape of `R` rows of `C` columns. -/
abbrev Sh (R C : ℕ) : Shape := ⟨2, ![R, C]⟩

/-- The elements of the rows `lo, …, lo + n - 1`. -/
def rowsF (R C lo n : ℕ) : Finset (Sh R C).Idx :=
  Finset.univ.filter fun x => lo ≤ (x 0).val ∧ (x 0).val < lo + n

omit [FloatOps F] in
theorem mem_rowsF {R C lo n : ℕ} {x : (Sh R C).Idx} : x ∈ rowsF R C lo n ↔ lo ≤ (x 0).val ∧ (x 0).val < lo + n := by
  simp [rowsF]

theorem rowsF_union {R C lo a b : ℕ} : rowsF R C lo a ∪ rowsF R C (lo + a) b = rowsF R C lo (a + b) := by
  ext x; simp only [Finset.mem_union, mem_rowsF]; omega

theorem rowsF_disjoint {R C lo a b : ℕ} : Disjoint (rowsF R C lo a) (rowsF R C (lo + a) b) := by
  rw [Finset.disjoint_left]; intro x; simp only [mem_rowsF]; omega

theorem rowsF_all {R C : ℕ} : rowsF R C 0 R = Finset.univ := by
  ext x; simp only [mem_rowsF, Finset.mem_univ, iff_true]
  have := (x 0).isLt
  exact ⟨Nat.zero_le _, by simpa using this⟩

/-- The rectangle of the rows `lo, …` over all columns has those rows' elements. -/
theorem rect_set {R C lo n : ℕ} {off sz : Fin (Sh R C).rank → ℕ} (inb : ∀ a, off a + sz a ≤ (Sh R C).size a)
    (h0 : off 0 = lo) (h1 : off 1 = 0) (hn : sz 0 = n) (hC : sz 1 = C) :
    (Rect.unit (s := Sh R C) off sz inb).set = rowsF R C lo n := by
  ext x
  rw [Rect.mem_set_unit, mem_rowsF]
  refine (Fin.forall_fin_two (p := fun a : Fin 2 => off a ≤ x a ∧ (x a : ℕ) < off a + sz a)).trans ?_
  rw [h0, h1, hn, hC]
  have : (x 1).val < C := by simpa using (x 1).isLt
  constructor
  · exact fun h => h.1
  · exact fun h => ⟨h, Nat.zero_le _, by omega⟩

section Rows

variable {R C : ℕ} {c : Thread nD τ} {sp : Space} {e : EltTy}

/-- The rows `lo, …, lo + n - 1` of a memref, owned outright, holding `V row column`. -/
def rowsAt (c : Thread nD τ) (m : Memref sig c.2.kind sp (Sh R C) e) (lo n : ℕ) (V : ℕ → ℕ → Elt F e) : sProp 𝕄 :=
  iprop(∃ f : Buf (Elt F) (m.view.loc c), ⌜∀ x ∈ rowsF R C lo n, m.view.read (Elt F) f x = V (x 0).val (x 1).val⌝
    ∗ (m.view.loc c ↦[m.view.setOn (rowsF R C lo n)]{fullShare} f))

/-- The same rows, owned outright at contents not stated. -/
def rowsAny (c : Thread nD τ) (m : Memref sig c.2.kind sp (Sh R C) e) (lo n : ℕ) : sProp 𝕄 :=
  iprop(∃ f : Buf (Elt F) (m.view.loc c), (m.view.loc c ↦[m.view.setOn (rowsF R C lo n)]{fullShare} f))

instance rowsAt_storable (m : Memref sig c.2.kind sp (Sh R C) e) (lo n : ℕ) (V : ℕ → ℕ → Elt F e) :
    BI.Storable (upEmb : UEmb _ 𝕄) (rowsAt c m lo n V) := by unfold rowsAt; infer_instance
instance rowsAny_storable (m : Memref sig c.2.kind sp (Sh R C) e) (lo n : ℕ) :
    BI.Storable (upEmb : UEmb _ 𝕄) (rowsAny (F := F) c m lo n) := by unfold rowsAny; infer_instance

theorem rowsAt_any (m : Memref sig c.2.kind sp (Sh R C) e) (lo n : ℕ) (V : ℕ → ℕ → Elt F e) :
    rowsAt c m lo n V ⊢ (rowsAny c m lo n : sProp 𝕄) := by
  unfold rowsAt rowsAny
  iintro ⟨%f, -, H⟩
  iexists f; iexact H

theorem rowsAt_congr (m : Memref sig c.2.kind sp (Sh R C) e) {lo n : ℕ} {V V' : ℕ → ℕ → Elt F e}
    (h : ∀ i j, lo ≤ i → i < lo + n → V i j = V' i j) :
    rowsAt c m lo n V ⊢ (rowsAt c m lo n V' : sProp 𝕄) := by
  unfold rowsAt
  iintro ⟨%f, %hf, H⟩
  iexists f
  isplitr
  · ipureintro; intro x hx; rw [hf x hx]; have := mem_rowsF.1 hx; exact h _ _ this.1 this.2
  · iexact H

theorem setOn_union (m : Memref sig c.2.kind sp (Sh R C) e) (lo a b : ℕ) :
    m.view.setOn (rowsF R C lo a) ∪ m.view.setOn (rowsF R C (lo + a) b) = m.view.setOn (rowsF R C lo (a + b)) := by
  unfold View.setOn; rw [← Finset.map_union, rowsF_union]

theorem setOn_disjoint (m : Memref sig c.2.kind sp (Sh R C) e) (lo a b : ℕ) :
    Disjoint (m.view.setOn (rowsF R C lo a)) (m.view.setOn (rowsF R C (lo + a) b)) := by
  unfold View.setOn; rw [Finset.disjoint_map]; exact rowsF_disjoint

theorem rowsAt_split (m : Memref sig c.2.kind sp (Sh R C) e) (lo a b : ℕ) (V : ℕ → ℕ → Elt F e) :
    rowsAt c m lo (a + b) V ⊢ (iprop(rowsAt c m lo a V ∗ rowsAt c m (lo + a) b V) : sProp 𝕄) := by
  unfold rowsAt
  iintro ⟨%f, %hf, H⟩
  ihave H := (Entails.of_eq (congrArg (fun S => (m.view.loc c ↦[S]{fullShare} f : sProp 𝕄)) (setOn_union m lo a b).symm)) $$ H
  ihave H := (pointsTo_union (setOn_disjoint m lo a b)).1 $$ H
  icases H with ⟨H1, H2⟩
  isplitl [H1]
  · iexists f; isplitr
    · ipureintro; intro x hx; refine hf x ?_; rw [← rowsF_union]; exact Finset.mem_union_left _ hx
    · iexact H1
  · iexists f; isplitr
    · ipureintro; intro x hx; refine hf x ?_; rw [← rowsF_union]; exact Finset.mem_union_right _ hx
    · iexact H2

theorem rowsAny_split (m : Memref sig c.2.kind sp (Sh R C) e) (lo a b : ℕ) :
    rowsAny (F := F) c m lo (a + b) ⊢ (iprop(rowsAny c m lo a ∗ rowsAny c m (lo + a) b) : sProp 𝕄) := by
  unfold rowsAny
  iintro ⟨%f, H⟩
  ihave H := (Entails.of_eq (congrArg (fun S => (m.view.loc c ↦[S]{fullShare} f : sProp 𝕄)) (setOn_union m lo a b).symm)) $$ H
  ihave H := (pointsTo_union (setOn_disjoint m lo a b)).1 $$ H
  icases H with ⟨H1, H2⟩
  isplitl [H1]
  · iexists f; iexact H1
  · iexists f; iexact H2

theorem read_piecewise (m : Memref sig c.2.kind sp (Sh R C) e) (M : Finset (Sh R C).Idx)
    (f g : Buf (Elt F) (m.view.loc c)) (x : (Sh R C).Idx) :
    m.view.read (Elt F) ((m.view.setOn M).piecewise g f : Buf (Elt F) (m.view.loc c)) x
      = if x ∈ M then m.view.read (Elt F) g x else m.view.read (Elt F) f x := by
  by_cases h : x ∈ M
  · rw [if_pos h, View.read_apply, View.read_apply]
    congr 1
    exact Finset.piecewise_eq_of_mem _ _ _ ((View.mem_setOn _).2 h)
  · rw [if_neg h, View.read_apply, View.read_apply]
    congr 1
    exact Finset.piecewise_eq_of_notMem _ _ _ (fun hh => h ((View.mem_setOn _).1 hh))

theorem rowsAt_join (m : Memref sig c.2.kind sp (Sh R C) e) (lo a b : ℕ) (V : ℕ → ℕ → Elt F e) :
    (iprop(rowsAt c m lo a V ∗ rowsAt c m (lo + a) b V) : sProp 𝕄) ⊢ rowsAt c m lo (a + b) V := by
  unfold rowsAt
  iintro ⟨⟨%f, %hf, Hf⟩, ⟨%g, %hg, Hg⟩⟩
  ihave H := (pointsTo_join (ℓ := m.view.loc c) (f := f) (g := g) (setOn_disjoint m lo a b)) $$ [Hf Hg]
  · isplitl [Hf] <;> iassumption
  ihave H := (Entails.of_eq (congrArg (fun S => (m.view.loc c ↦[S]{fullShare} _ : sProp 𝕄)) (setOn_union m lo a b))) $$ H
  iexists _
  isplitr
  rotate_left
  · iexact H
  · ipureintro
    intro x hx
    rw [read_piecewise]
    split
    · rename_i h; exact hg x h
    · rename_i h
      refine hf x ?_
      rw [← rowsF_union] at hx
      exact (Finset.mem_union.1 hx).resolve_right h

theorem rowsAny_join (m : Memref sig c.2.kind sp (Sh R C) e) (lo a b : ℕ) :
    (iprop(rowsAny c m lo a ∗ rowsAny c m (lo + a) b) : sProp 𝕄) ⊢ rowsAny (F := F) c m lo (a + b) := by
  unfold rowsAny
  iintro ⟨⟨%f, Hf⟩, ⟨%g, Hg⟩⟩
  ihave H := (pointsTo_join (ℓ := m.view.loc c) (f := f) (g := g) (setOn_disjoint m lo a b)) $$ [Hf Hg]
  · isplitl [Hf] <;> iassumption
  ihave H := (Entails.of_eq (congrArg (fun S => (m.view.loc c ↦[S]{fullShare} _ : sProp 𝕄)) (setOn_union m lo a b))) $$ H
  iexists _
  iexact H

/-- What a load of the rows `lo', …` reads. -/
abbrev rowsV (V : ℕ → ℕ → Elt F e) (lo : ℕ) {sz : Fin 2 → ℕ} : (⟨2, sz⟩ : Shape).Idx → Elt F e :=
  fun x => V (lo + (x 0).val) (x 1).val

/-! ## One operation -/

variable {Λ : Labels} {defs : Defs nD τ sig (Elt F) Λ} (𝒱 : Variants) {bd : Option 𝒱.V} {Γ : PendingWaitsCtx sig Unit} {α : Type}
variable {Es : Set ℕ} {cs : CoreSpace}

theorem rows_load {Q : α → sProp 𝕄} (m : Memref sig c.2.kind cs (Sh R C) e) {off sz : Fin (Sh R C).rank → ℕ}
    {inb : ∀ a, off a + sz a ≤ (Sh R C).size a} {hl : m.view.LoadsAt (Rect.unit (s := Sh R C) off sz inb).toLoadRect}
    {k : ((⟨2, sz⟩ : Shape).Idx → Elt F e) → Prog (TpuEff nD τ sig (Elt F) Λ c.2) α} {lo n lo' n' : ℕ} {V : ℕ → ℕ → Elt F e}
    (h0 : off 0 = lo') (h1 : off 1 = 0) (hn : sz 0 = n') (hC : sz 1 = C) (hlo : lo ≤ lo') (hhi : lo' + n' ≤ lo + n) :
    rowsAt c m lo n V
      ⊢ iprop((rowsAt c m lo n V -∗ wp frame (wpE' defs 𝒱 c bd Γ) Es (k (rowsV V lo')) Q)
        -∗ wp frame (wpE' defs 𝒱 c bd Γ) Es (.op (.load m (Rect.unit (s := Sh R C) off sz inb).toLoadRect hl) k) Q) := by
  unfold rowsAt
  iintro ⟨%f, %hf, H⟩ Hk
  have hsub : rowsF R C lo' n' ⊆ rowsF R C lo n := by
    intro x; simp only [mem_rowsF]; omega
  have hS : m.view.setOn (Rect.unit (s := Sh R C) off sz inb).toLoadRect.set ⊆ m.view.setOn (rowsF R C lo n) := by
    rw [rect_set inb h0 h1 hn hC]; exact Finset.map_subset_map.2 hsub
  iapply (wp_load 𝒱 c bd Es (m := m) (hl := hl) (S := m.view.setOn (rowsF R C lo n)) (f := f) hS) $$ H
  iintro H
  have hv : m.view.readAt (Elt F) (Rect.unit (s := Sh R C) off sz inb).toLoadRect f = rowsV V lo' := by
    funext x
    have hx : (Rect.unit (s := Sh R C) off sz inb).toLoadRect.idx x ∈ rowsF R C lo n := by
      refine hsub ?_
      rw [← rect_set inb h0 h1 hn hC]
      exact LoadRect.idx_mem _ _
    rw [View.readAt_apply, hf _ hx]
    simp only [LoadRect.idx_apply, Rect.off_unit, Rect.stride_unit, Nat.one_mul, h0, h1, Nat.zero_add]
  rw [hv]
  iapply Hk
  iexists f
  isplitr
  · ipureintro; exact hf
  · iexact H

theorem rows_load_any {Q : α → sProp 𝕄} (m : Memref sig c.2.kind cs (Sh R C) e) {off sz : Fin (Sh R C).rank → ℕ}
    {inb : ∀ a, off a + sz a ≤ (Sh R C).size a} {hl : m.view.LoadsAt (Rect.unit (s := Sh R C) off sz inb).toLoadRect}
    {k : ((⟨2, sz⟩ : Shape).Idx → Elt F e) → Prog (TpuEff nD τ sig (Elt F) Λ c.2) α} {lo n lo' n' : ℕ}
    (h0 : off 0 = lo') (h1 : off 1 = 0) (hn : sz 0 = n') (hC : sz 1 = C) (hlo : lo ≤ lo') (hhi : lo' + n' ≤ lo + n) :
    rowsAny c m lo n
      ⊢ iprop((∀ v, rowsAny c m lo n -∗ wp frame (wpE' defs 𝒱 c bd Γ) Es (k v) Q)
        -∗ wp frame (wpE' defs 𝒱 c bd Γ) Es (.op (.load m (Rect.unit (s := Sh R C) off sz inb).toLoadRect hl) k) Q) := by
  unfold rowsAny
  iintro ⟨%f, H⟩ Hk
  have hS : m.view.setOn (Rect.unit (s := Sh R C) off sz inb).toLoadRect.set ⊆ m.view.setOn (rowsF R C lo n) := by
    rw [rect_set inb h0 h1 hn hC]; refine Finset.map_subset_map.2 ?_
    intro x; simp only [mem_rowsF]; omega
  iapply (wp_load 𝒱 c bd Es (m := m) (hl := hl) (S := m.view.setOn (rowsF R C lo n)) (f := f) hS) $$ H
  iintro H
  iapply Hk
  iexists f; iexact H

theorem rows_store {Q : α → sProp 𝕄} (m : Memref sig c.2.kind cs (Sh R C) e) {off sz : Fin (Sh R C).rank → ℕ}
    {inb : ∀ a, off a + sz a ≤ (Sh R C).size a} {w : (⟨2, sz⟩ : Shape).Idx → Elt F e}
    {hx : (m.access (Rect.unit (s := Sh R C) off sz inb)).Stores Finset.univ}
    {hm : Finset.univ = Finset.univ ∨ ∀ a, (Rect.unit (s := Sh R C) off sz inb).stride a = 1}
    {k : PUnit → Prog (TpuEff nD τ sig (Elt F) Λ c.2) α} {lo n : ℕ} {V : ℕ → ℕ → Elt F e}
    (h0 : off 0 = lo) (h1 : off 1 = 0) (hn : sz 0 = n) (hC : sz 1 = C) (hw : ∀ x, w x = rowsV V lo x) :
    rowsAny c m lo n
      ⊢ iprop((rowsAt c m lo n V -∗ wp frame (wpE' defs 𝒱 c bd Γ) Es (k ⟨⟩) Q)
        -∗ wp frame (wpE' defs 𝒱 c bd Γ) Es (.op (.store m (Rect.unit (s := Sh R C) off sz inb) w Finset.univ hx hm) k) Q) := by
  unfold rowsAny
  iintro ⟨%f, H⟩ Hk
  have hE : (m.access (Rect.unit (s := Sh R C) off sz inb)).set = m.view.setOn (rowsF R C lo n) := by
    rw [← rect_set inb h0 h1 hn hC]; exact View.set_slice _ _
  iapply (wp_store 𝒱 c bd Es (m := m) (hx := hx) (hm := hm) (S := m.view.setOn (rowsF R C lo n)) (f := f)
    (subset_of_eq ((View.setOn_univ _).trans hE))) $$ H
  iintro H
  iapply Hk
  unfold rowsAt
  iexists _
  isplitr
  rotate_left
  · iexact H
  · ipureintro
    intro x hx'
    rw [← rect_set inb h0 h1 hn hC] at hx'
    obtain ⟨y, rfl⟩ := LoadRect.exists_idx_of_mem _ hx'
    refine (View.read_slice_write_emb (v := m.view) _ _ _ (x := y) (Finset.mem_univ y)).trans ?_
    rw [hw]
    simp only [rowsV, LoadRect.idx_apply, Rect.off_unit, Rect.stride_unit, Nat.one_mul, h0, h1, Nat.zero_add]

end Rows

end Cert.SiluProof
-- ==== Proof.Mesh.lean ====
/-
# The mesh and the six groups of rows

Eight devices form a cube. A device's partner along a dimension differs from it in that dimension's coordinate alone.
The 2048 result rows are cut into six groups; a group takes the three dimensions in its own order. Along the first
dimension a device keeps half of the group's rows, along the second a quarter.
-/
module

public import proofs.«01_k».proof.Proof.Rows

@[expose] public section

noncomputable section

namespace Cert.SiluProof

open Cert.KernelIdeal Cert.KernelIdeal.Gen
open Idealize.ShloMosaic

/-- The partner of a device along a dimension. -/
def par (d : Fin 3) (c : Dev nD) : Dev nD :=
  ⟨c.val ^^^ (match d with | 0 => 1 | 1 => 3 | 2 => 4), by revert c; revert d; decide⟩

/-- The coordinate of a device in a dimension. -/
def bit (d : Fin 3) (c : Dev nD) : ℕ :=
  match d with | 0 => (c.val ^^^ (c.val / 2)) % 2 | 1 => c.val / 2 % 2 | 2 => c.val / 4 % 2

theorem par_par (d : Fin 3) (c : Dev nD) : par d (par d c) = c := by revert c; revert d; decide
theorem bit_lt (d : Fin 3) (c : Dev nD) : bit d c < 2 := by revert c; revert d; decide
theorem bit_par_self (d : Fin 3) (c : Dev nD) : bit d (par d c) = 1 - bit d c := by revert c; revert d; decide
theorem bit_par_ne {d e : Fin 3} (h : e ≠ d) (c : Dev nD) : bit e (par d c) = bit e c := by
  revert c; revert h; revert e; revert d; decide

/-- The dimension a group takes at step `j`. -/
def ord (g : Fin 6) (j : Fin 3) : Fin 3 := ⟨(g.val + j.val) % 3, Nat.mod_lt _ (by decide)⟩

theorem ord_inj (g : Fin 6) {i j : Fin 3} (h : i ≠ j) : ord g i ≠ ord g j := by
  revert h; revert i j; revert g; decide

/-- The first row of a group. -/
def start (g : Fin 6) : ℕ := match g with | 0 => 0 | 1 => 384 | 2 => 768 | 3 => 1152 | 4 => 1536 | 5 => 1792
/-- The rows of a quarter of a group. -/
def Q (g : Fin 6) : ℕ := match g with | 0 => 96 | 1 => 96 | 2 => 96 | 3 => 96 | 4 => 64 | 5 => 64
/-- The rows of half a group. -/
abbrev H (g : Fin 6) : ℕ := 2 * Q g

/-- The partner of a device at a step of a group. -/
abbrev pr (g : Fin 6) (j : Fin 3) (c : Dev nD) : Dev nD := par (ord g j) c
/-- The coordinate of a device in the dimension of a step of a group. -/
abbrev bt (g : Fin 6) (j : Fin 3) (c : Dev nD) : ℕ := bit (ord g j) c

/-- The first row of the half a device keeps. -/
def K0 (g : Fin 6) (c : Dev nD) : ℕ := start g + bt g 0 c * H g
/-- The first row of the quarter a device keeps. -/
def K1 (g : Fin 6) (c : Dev nD) : ℕ := K0 g c + bt g 1 c * Q g

theorem K0_par1 (g : Fin 6) (c : Dev nD) : K0 g (pr g 1 c) = K0 g c := by
  unfold K0 bt pr; rw [bit_par_ne (ord_inj g (by decide))]
theorem K0_par2 (g : Fin 6) (c : Dev nD) : K0 g (pr g 2 c) = K0 g c := by
  unfold K0 bt pr; rw [bit_par_ne (ord_inj g (by decide))]
theorem K1_par2 (g : Fin 6) (c : Dev nD) : K1 g (pr g 2 c) = K1 g c := by
  unfold K1; rw [K0_par2]; unfold bt pr; rw [bit_par_ne (ord_inj g (by decide))]

/-- The two halves, in order of rows. -/
theorem K0_cases (g : Fin 6) (c : Dev nD) :
    (K0 g c = start g ∧ K0 g (pr g 0 c) = start g + H g) ∨ (K0 g c = start g + H g ∧ K0 g (pr g 0 c) = start g) := by
  unfold K0 bt pr; rw [bit_par_self]
  have := bit_lt (ord g 0) c
  rcases (by omega : bit (ord g 0) c = 0 ∨ bit (ord g 0) c = 1) with h | h <;> rw [h] <;> simp

/-- The two quarters of the kept half, in order of rows. -/
theorem K1_cases (g : Fin 6) (c : Dev nD) :
    (K1 g c = K0 g c ∧ K1 g (pr g 1 c) = K0 g c + Q g) ∨ (K1 g c = K0 g c + Q g ∧ K1 g (pr g 1 c) = K0 g c) := by
  unfold K1; rw [K0_par1]; unfold bt pr; rw [bit_par_self]
  have := bit_lt (ord g 1) c
  rcases (by omega : bit (ord g 1) c = 0 ∨ bit (ord g 1) c = 1) with h | h <;> rw [h] <;> simp

theorem start_le (g : Fin 6) : start g + 4 * Q g ≤ 2048 := by revert g; decide

theorem K0_mem (g : Fin 6) (c : Dev nD) : start g ≤ K0 g c ∧ K0 g c + H g ≤ start g + 4 * Q g := by
  rcases K0_cases g c with h | h <;> unfold H at * <;> omega
theorem K1_mem (g : Fin 6) (c : Dev nD) : K0 g c ≤ K1 g c ∧ K1 g c + Q g ≤ K0 g c + H g := by
  rcases K1_cases g c with h | h <;> unfold H at * <;> omega

/-- The device with coordinate `b` in a dimension and otherwise those of `c`. -/
def setBit (d : Fin 3) (b : ℕ) (c : Dev nD) : Dev nD := if bit d c = b then c else par d c

theorem setBit_self (d : Fin 3) (c : Dev nD) : setBit d (bit d c) c = c := if_pos rfl
theorem setBit_par (d : Fin 3) {b : ℕ} (hb : b < 2) (c : Dev nD) : setBit d b (par d c) = setBit d b c := by
  rcases (by omega : b = 0 ∨ b = 1) with rfl | rfl <;> (revert c; revert d; decide)
theorem setBit_par_ne {d e : Fin 3} (h : e ≠ d) {b : ℕ} (hb : b < 2) (c : Dev nD) :
    setBit d b (par e c) = par e (setBit d b c) := by
  rcases (by omega : b = 0 ∨ b = 1) with rfl | rfl <;> (revert c; revert h; revert e; revert d; decide)

/-- The device, of those that share `c`'s coordinate in the group's last dimension, that finishes a row of the group. -/
def own (c : Dev nD) (g : Fin 6) (i : ℕ) : Dev nD :=
  setBit (ord g 0) ((i - start g) / H g % 2) (setBit (ord g 1) ((i - start g) / Q g % 2) c)

theorem Q_pos (g : Fin 6) : 0 < Q g := by revert g; decide

theorem own_self (c : Dev nD) (g : Fin 6) (i : ℕ) (h1 : K1 g c ≤ i) (h2 : i < K1 g c + Q g) : own c g i = c := by
  have hq := Q_pos g
  have b0 := bit_lt (ord g 0) c
  have b1 := bit_lt (ord g 1) c
  have hd : i - start g = (2 * bit (ord g 0) c + bit (ord g 1) c) * Q g + (i - K1 g c) := by
    have h : K1 g c = start g + (2 * bit (ord g 0) c + bit (ord g 1) c) * Q g := by
      unfold K1 K0 H bt; rw [Nat.add_mul, Nat.mul_assoc 2, Nat.mul_left_comm, Nat.add_assoc]
    omega
  have hlt : i - K1 g c < Q g := by omega
  have e1 : (i - start g) / Q g = 2 * bit (ord g 0) c + bit (ord g 1) c := by
    rw [hd, Nat.add_comm, Nat.add_mul_div_right _ _ hq, Nat.div_eq_of_lt hlt, Nat.zero_add]
  have e0 : (i - start g) / H g = bit (ord g 0) c := by
    unfold H; rw [Nat.mul_comm, ← Nat.div_div_eq_div_mul, e1]; omega
  unfold own
  rw [e1, e0, show (2 * bit (ord g 0) c + bit (ord g 1) c) % 2 = bit (ord g 1) c by omega, Nat.mod_eq_of_lt b0,
    setBit_self, setBit_self]

theorem own_par1 (c : Dev nD) (g : Fin 6) (i : ℕ) : own (pr g 1 c) g i = own c g i := by
  unfold own; rw [setBit_par _ (Nat.mod_lt _ (by decide))]
theorem own_par0 (c : Dev nD) (g : Fin 6) (i : ℕ) : own (pr g 0 c) g i = own c g i := by
  unfold own
  rw [setBit_par_ne (ord_inj g (by decide)) (Nat.mod_lt _ (by decide)), setBit_par _ (Nat.mod_lt _ (by decide))]

end Cert.SiluProof
-- ==== Proof.Values.lean ====
/-
# What the blocks of rows hold

The contents of every block of rows the kernel writes, as functions of the row and the column: the device's product,
the sum after each step, the finished rows.
-/
module

public import proofs.«01_k».proof.Proof.Mesh
public import Idealize.ShloMosaic.Lib.MatmulPlain

@[expose] public section

noncomputable section

namespace Cert.SiluProof

open Cert.KernelIdeal Cert.KernelIdeal.Gen
open Idealize.ShloMosaic
open Idealize.ShloMosaic.ValueIdx

variable {F : FTy → Type} [FloatOps F]

/-- The index at a row and a column, each taken modulo the extent. -/
def ixN {n C : ℕ} (hn : 0 < n) (hC : 0 < C) (i j : ℕ) : (Sh n C).Idx :=
  ix2 ⟨i % n, Nat.mod_lt _ hn⟩ ⟨j % C, Nat.mod_lt _ hC⟩

theorem ixN_self {n C : ℕ} (hn : 0 < n) (hC : 0 < C) (x : (Sh n C).Idx) : ixN hn hC (x 0).val (x 1).val = x := by
  funext a
  match a with
  | ⟨0, _⟩ => exact Fin.ext (Nat.mod_eq_of_lt (x 0).isLt)
  | ⟨1, _⟩ => exact Fin.ext (Nat.mod_eq_of_lt (x 1).isLt)

/-- The contents of an array of two axes, by row and column. -/
def byRow {n C : ℕ} (hn : 0 < n) (hC : 0 < C) {α : Type} (f : (Sh n C).Idx → α) (i j : ℕ) : α := f (ixN hn hC i j)

theorem byRow_self {n C : ℕ} (hn : 0 < n) (hC : 0 < C) {α : Type} (f : (Sh n C).Idx → α) (x : (Sh n C).Idx) :
    byRow hn hC f (x 0).val (x 1).val = f x := by unfold byRow; rw [ixN_self]

/-- The product of a block of `n` rows, rounded to the narrow width, with the right operand. -/
def dotG (n : ℕ) (v : (⟨2, ![n, 1024]⟩ : Shape).Idx → Elt F .f32) (w : (⟨2, ![1024, 2048]⟩ : Shape).Idx → Elt F .bf16) :
    (⟨2, ![n, 2048]⟩ : Shape).Idx → Elt F .bf16 :=
  truncf (F := F) (s := ⟨2, ![n, 2048]⟩) .bf16 (matmul (F := F) (DotDims.plain n 1024 2048) none
    (truncf (F := F) (s := ⟨2, ![n, 1024]⟩) (φ := .f32) .bf16 v bitsLt_bf16_f32) w (constant ⟨2, ![n, 2048]⟩ .f32 0x00000000#32)) bitsLt_bf16_f32

/-- The logistic unit's value. -/
def siluS (x : F .f32) : F .f32 :=
  FloatOps.divf x (FloatOps.addf (Scalar.ofBits .f32 0x3F800000#32) (FloatOps.exp (FloatOps.subf (Scalar.ofBits .f32 0x00000000#32) x)))

section

variable (aV bV : Dev nD → ℕ → ℕ → Elt F .f32)

/-- The right operand, rounded. -/
def bbV (c : Dev nD) (i j : ℕ) : Elt F .bf16 := FloatOps.truncf (φ := .f32) .bf16 bitsLt_bf16_f32 (bV c i j)

/-- A device's own product, in the half blocks of a group. -/
def V0 (c : Dev nD) (g : Fin 6) (i j : ℕ) : Elt F .bf16 :=
  dotG (H g) (rowsV (aV c) (start g + (i - start g) / H g * H g)) (rowsV (bbV bV c) 0)
    (ixN (Nat.mul_pos (by decide) (Q_pos g)) (by decide) ((i - start g) % H g) j)

/-- After the first step. -/
def V1 (c : Dev nD) (g : Fin 6) (i j : ℕ) : Elt F .bf16 :=
  FloatOps.addf (F := F) (φ := .bf16) (V0 aV bV c g i j) (V0 aV bV (pr g 0 c) g i j)
/-- After the second step. -/
def V2 (c : Dev nD) (g : Fin 6) (i j : ℕ) : Elt F .bf16 :=
  FloatOps.addf (F := F) (φ := .bf16) (V1 aV bV c g i j) (V1 aV bV (pr g 1 c) g i j)
/-- A finished element, on the device that finishes it. -/
def V3 (c : Dev nD) (g : Fin 6) (i j : ℕ) : Elt F .bf16 :=
  FloatOps.truncf (F := F) (φ := .f32) .bf16 bitsLt_bf16_f32 (siluS (F := F) (FloatOps.addf
    (FloatOps.extf (F := F) (φ := .bf16) .f32 bitsLt_bf16_f32 (V2 aV bV c g i j))
    (FloatOps.extf (F := F) (φ := .bf16) .f32 bitsLt_bf16_f32 (V2 aV bV (pr g 2 c) g i j))))
/-- The finished rows of a group, as the devices that share `c`'s last coordinate gather them. -/
def Zf (c : Dev nD) (g : Fin 6) (i j : ℕ) : Elt F .bf16 := V3 aV bV (own c g i) g i j
/-- The result rows of a group. -/
def outV (c : Dev nD) (g : Fin 6) (i j : ℕ) : Elt F .f32 :=
  FloatOps.extf (F := F) (φ := .bf16) .f32 bitsLt_bf16_f32 (Zf aV bV c g i j)

theorem Zf_own (c : Dev nD) (g : Fin 6) (i j : ℕ) (h1 : K1 g c ≤ i) (h2 : i < K1 g c + Q g) :
    Zf aV bV c g i j = V3 aV bV c g i j := by unfold Zf; rw [own_self c g i h1 h2]
theorem Zf_par1 (c : Dev nD) (g : Fin 6) : Zf aV bV (pr g 1 c) g = Zf aV bV c g := by
  funext i j; unfold Zf; rw [own_par1]
theorem Zf_par0 (c : Dev nD) (g : Fin 6) : Zf aV bV (pr g 0 c) g = Zf aV bV c g := by
  funext i j; unfold Zf; rw [own_par0]

/-- A half block's product is the device's product of those rows. -/
theorem dotG_rows (c : Dev nD) (g : Fin 6) (lo : ℕ) (h : lo = start g ∨ lo = start g + H g)
    (x : (⟨2, ![H g, 2048]⟩ : Shape).Idx) :
    dotG (H g) (rowsV (aV c) lo) (rowsV (bbV bV c) 0) x = rowsV (V0 aV bV c g) lo x := by
  have hp : 0 < H g := Nat.mul_pos (by decide) (Q_pos g)
  have hx : (x 0).val < H g := (x 0).isLt
  have e1 : start g + (lo + (x 0).val - start g) / H g * H g = lo := by
    rcases h with rfl | rfl
    · rw [Nat.add_sub_cancel_left, Nat.div_eq_of_lt hx]; simp
    · rw [Nat.add_assoc, Nat.add_sub_cancel_left, Nat.add_div_left _ hp, Nat.div_eq_of_lt hx]; simp
  have e2 : (lo + (x 0).val - start g) % H g = (x 0).val := by
    rcases h with rfl | rfl
    · rw [Nat.add_sub_cancel_left, Nat.mod_eq_of_lt hx]
    · rw [Nat.add_assoc, Nat.add_sub_cancel_left, Nat.add_mod_left, Nat.mod_eq_of_lt hx]
  show _ = V0 aV bV c g (lo + (x 0).val) (x 1).val
  unfold V0
  rw [e1, e2, ixN_self]

end

end Cert.SiluProof
-- ==== Proof.Cells.lean ====
/-
# The buffers and the semaphores

The scratch buffers as memrefs, and the semaphore of each transfer: group `g`, kind `k`. Kinds 0, 1, 2 are the send
semaphores of a group's three reduce steps and 3, 4, 5 their receive semaphores; 6, 7 are the send semaphores of its two
gather steps and 8, 9 their receive semaphores; 10 is the semaphore of its copy to the result.
-/
module

public import proofs.«01_k».proof.Proof.Values

@[expose] public section

noncomputable section

namespace Cert.SiluProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The left and the right operand's block, the running sums, the rounded right operand, the finished rows widened, the result. -/
abbrev aM : Memref sig .tc .vmem (Sh 2048 1024) .f32 := Memref.whole cc0_stg0_0
abbrev bM : Memref sig .tc .vmem (Sh 1024 2048) .f32 := Memref.whole cc0_stg1_0
abbrev zM : Memref sig .tc .vmem (Sh 2048 2048) .bf16 := Memref.whole cc0_scratch0
abbrev bbM : Memref sig .tc .vmem (Sh 1024 2048) .bf16 := Memref.whole cc0_scratch1
abbrev fM : Memref sig .tc .vmem (Sh 2048 2048) .f32 := Memref.whole cc0_scratch2
abbrev oM : Memref sig .tc .hbm (Sh 2048 2048) .f32 := Memref.whole main_v1

/-- A group's landing buffer. -/
abbrev rM (g : Fin 6) : Memref sig .tc .vmem (Sh (4 * Q g) 2048) .bf16 :=
  match g with
  | 0 => Memref.whole cc0_scratch3
  | 1 => Memref.whole cc0_scratch4
  | 2 => Memref.whole cc0_scratch5
  | 3 => Memref.whole cc0_scratch6
  | 4 => Memref.whole cc0_scratch7
  | 5 => Memref.whole cc0_scratch8

/-- The runtime's barrier semaphore. -/
abbrev barS : Sem sig := (SemArray.scalar (sig.barrier 0 rfl) : Sems sig S_).sem

/-- A transfer: its group and its kind. -/
abbrev I : Type := Fin 6 × Fin 11

/-- The semaphore's place among the scratch semaphores. -/
def semN (i : I) : ℕ :=
  match i.2 with
  | 0 => 2 + 3 * i.1.val | 1 => 2 + 3 * i.1.val + 1 | 2 => 2 + 3 * i.1.val + 2
  | 3 => 20 + 3 * i.1.val | 4 => 20 + 3 * i.1.val + 1 | 5 => 20 + 3 * i.1.val + 2
  | 6 => 38 + 2 * i.1.val | 7 => 38 + 2 * i.1.val + 1
  | 8 => 50 + 2 * i.1.val | 9 => 50 + 2 * i.1.val + 1
  | 10 => 62 + i.1.val

theorem semN_lt (i : I) : semN i < 68 := by revert i; decide

def semI (i : I) : DmaSem sig := ⟨semN i, semN_lt i⟩

/-- The transfer of a semaphore. -/
def dec (q : DmaSem sig) : Option I :=
  if q.val < 2 then none
  else if q.val < 20 then some (Fin.ofNat 6 ((q.val - 2) / 3), Fin.ofNat 11 ((q.val - 2) % 3))
  else if q.val < 38 then some (Fin.ofNat 6 ((q.val - 20) / 3), Fin.ofNat 11 ((q.val - 20) % 3 + 3))
  else if q.val < 50 then some (Fin.ofNat 6 ((q.val - 38) / 2), Fin.ofNat 11 ((q.val - 38) % 2 + 6))
  else if q.val < 62 then some (Fin.ofNat 6 ((q.val - 50) / 2), Fin.ofNat 11 ((q.val - 50) % 2 + 8))
  else some (Fin.ofNat 6 (q.val - 62), 10)

theorem dec_semI (i : I) : dec (semI i) = some i := by revert i; decide

theorem semI_inj {i j : I} (h : semI i = semI j) : i = j :=
  Option.some.inj ((dec_semI i).symm.trans ((congrArg dec h).trans (dec_semI j)))

/-- What a transfer of `n` rows of the running sums counts, and one of `n` rows of the result. -/
def cr (n : ℕ) : ℕ := sig.dmaCredit .tc (Kind.table .tc .vmem) zM.view.buf (Sh n 2048) .bf16
def cro (n : ℕ) : ℕ := sig.dmaCredit .tc (Kind.table .tc .hbm) oM.view.buf (Sh n 2048) .f32

theorem credit_r (g : Fin 6) (n : ℕ) (off : Fin 2 → ℕ) (inb) (h) :
    ((rM g).slice (Rect.unit (s := Sh (4 * Q g) 2048) off ![n, 2048] inb) h).view.dmaCredit = cr n := rfl
theorem credit_z (n : ℕ) (off : Fin 2 → ℕ) (inb) (h) :
    (zM.slice (Rect.unit (s := Sh 2048 2048) off ![n, 2048] inb) h).view.dmaCredit = cr n := rfl
theorem credit_o (n : ℕ) (off : Fin 2 → ℕ) (inb) (h) :
    (oM.slice (Rect.unit (s := Sh 2048 2048) off ![n, 2048] inb) h).view.dmaCredit = cro n := rfl

theorem numel_pos {n : ℕ} (h : 0 < n) : 0 < (Sh n 2048).numel := Shape.numel_pos fun a =>
  match a with
  | ⟨0, _⟩ => h
  | ⟨1, _⟩ => (by decide : 0 < 2048)
theorem cr_pos {n : ℕ} (h : 0 < n) : 0 < cr n := sig.dmaCredit_pos _ _ _ _ _ (numel_pos h)
theorem cro_pos {n : ℕ} (h : 0 < n) : 0 < cro n := sig.dmaCredit_pos _ _ _ _ _ (numel_pos h)

attribute [irreducible] cr cro

end Cert.SiluProof
-- ==== Proof.Schedule.lean ====
/-
# The protocol

A device's barrier semaphore receives one unit from each partner, and with it the parts of that partner's landing buffers
this device writes. Each other semaphore receives one transfer. A reduce transfer hands over the rows that landed and
the sender's rows it was read from, which the receiver writes again in the gather.
-/
module

public import proofs.«01_k».proof.Proof.Cells

@[expose] public section

noncomputable section

namespace Cert.SiluProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The amount of a transfer. -/
def amt (i : I) : ℕ :=
  match i.2 with
  | 0 => cr (H i.1) | 1 => cr (Q i.1) | 2 => cr (Q i.1)
  | 3 => cr (H i.1) | 4 => cr (Q i.1) | 5 => cr (Q i.1)
  | 6 => cr (Q i.1) | 7 => cr (H i.1)
  | 8 => cr (Q i.1) | 9 => cr (H i.1)
  | 10 => cro (4 * Q i.1)

theorem amt_pos (i : I) : 0 < amt i := by
  have hq := Q_pos i.1
  have h1 : 0 < cr (Q i.1) := cr_pos hq
  have h2 : 0 < cr (H i.1) := cr_pos (Nat.mul_pos (by decide) hq)
  have h3 : 0 < cro (4 * Q i.1) := cro_pos (Nat.mul_pos (by decide) hq)
  unfold amt
  split <;> assumption

/-- The device that pays a transfer's semaphore names: itself for its own semaphores, else the partner it sends to. -/
def tgt (c : Dev nD) (i : I) : Dev nD :=
  match i.2 with
  | 3 => pr i.1 0 c | 4 => pr i.1 1 c | 5 => pr i.1 2 c | 8 => pr i.1 1 c | 9 => pr i.1 0 c | _ => c

theorem tgt_tgt (c : Dev nD) (i : I) : tgt (tgt c i) i = c := by
  obtain ⟨g, k⟩ := i
  revert c; revert g; revert k; decide

/-- The first row and the number of rows of a step's part of a landing buffer. -/
def wLo (g : Fin 6) (j : Fin 3) : ℕ := match j with | 0 => 0 | 1 => H g | 2 => 3 * Q g
def wN (g : Fin 6) (j : Fin 3) : ℕ := match j with | 0 => H g | 1 => Q g | 2 => Q g

/-- The step at which a group takes a dimension. -/
def stp (g : Fin 6) (d : Fin 3) : Fin 3 := ⟨(d.val + 3 - g.val % 3) % 3, Nat.mod_lt _ (by decide)⟩
theorem ord_stp (g : Fin 6) (d : Fin 3) : ord g (stp g d) = d := by revert d; revert g; decide
theorem stp_ord (g : Fin 6) (j : Fin 3) : stp g (ord g j) = j := by revert j; revert g; decide

/-- A step's part of a group's landing buffer on a device. -/
def win (c : Dev nD) (g : Fin 6) (j : Fin 3) : sProp 𝕄 := rowsAny (c : Thread nD τ) (rM g) (wLo g j) (wN g j)

/-- What the partner along a dimension hands over with its entry signal: the parts of its landing buffers this device writes. -/
def barPay (c : Dev nD) (d : Fin 3) : sProp 𝕄 := bigSep Finset.univ fun g : Fin 6 => win (par d c) g (stp g d)

instance win_storable (c : Dev nD) (g : Fin 6) (j : Fin 3) : BI.Storable (upEmb : UEmb _ 𝕄) (win (F := F) c g j) := by
  unfold win; infer_instance
instance barPay_storable (c : Dev nD) (d : Fin 3) : BI.Storable (upEmb : UEmb _ 𝕄) (barPay (F := F) c d) := by
  unfold barPay; infer_instance

section

variable (aV bV : Dev nD → ℕ → ℕ → Elt F .f32)

/-- What a transfer hands the owner of its semaphore. -/
def pay (c : Dev nD) (i : I) : sProp 𝕄 :=
  match i with
  | (_, 0) => iprop(emp)
  | (_, 1) => iprop(emp)
  | (g, 2) => rowsAt (c : Thread nD τ) zM (K1 g c) (Q g) (V2 aV bV c g)
  | (g, 3) => iprop(rowsAt (c : Thread nD τ) (rM g) 0 (H g) (fun i j => V0 aV bV (pr g 0 c) g (K0 g c + i) j)
      ∗ rowsAny (pr g 0 c : Thread nD τ) zM (K0 g c) (H g))
  | (g, 4) => iprop(rowsAt (c : Thread nD τ) (rM g) (H g) (Q g) (fun i j => V1 aV bV (pr g 1 c) g (K1 g c + (i - H g)) j)
      ∗ rowsAny (pr g 1 c : Thread nD τ) zM (K1 g c) (Q g))
  | (g, 5) => rowsAt (c : Thread nD τ) (rM g) (3 * Q g) (Q g) (fun i j => V2 aV bV (pr g 2 c) g (K1 g c + (i - 3 * Q g)) j)
  | (g, 6) => rowsAt (c : Thread nD τ) zM (K1 g c) (Q g) (Zf aV bV c g)
  | (g, 7) => rowsAt (c : Thread nD τ) zM (K0 g c) (H g) (Zf aV bV c g)
  | (g, 8) => rowsAt (c : Thread nD τ) zM (K1 g (pr g 1 c)) (Q g) (Zf aV bV c g)
  | (g, 9) => rowsAt (c : Thread nD τ) zM (K0 g (pr g 0 c)) (H g) (Zf aV bV c g)
  | (g, 10) => iprop(rowsAt (c : Thread nD τ) oM (start g) (4 * Q g) (outV aV bV c g)
      ∗ rowsAt (c : Thread nD τ) fM (start g) (4 * Q g) (outV aV bV c g))

instance pay_storable (c : Dev nD) (i : I) : BI.Storable (upEmb : UEmb _ 𝕄) (pay (F := F) aV bV c i) := by
  unfold pay; split <;> infer_instance

/-- The payers of a semaphore's one round, their amount, and what they pay. -/
def dutiesOf (s : SemLoc sig) : Finset (Fin 3) :=
  match s with
  | .reg _ => Finset.univ
  | .dma q => match dec q with | some _ => {0} | none => ∅
def amountOf' (s : SemLoc sig) : ℕ :=
  match s with
  | .reg _ => 1
  | .dma q => match dec q with | some i => amt i | none => 1
def payOf (c : Dev nD) (s : SemLoc sig) (d : Fin 3) : sProp 𝕄 :=
  match s with
  | .reg _ => barPay c d
  | .dma q => match dec q with | some i => pay aV bV c i | none => iprop(emp)

theorem amountOf'_pos (s : SemLoc sig) : 0 < amountOf' s := by
  unfold amountOf'
  split
  · exact Nat.one_pos
  · split
    · exact amt_pos _
    · exact Nat.one_pos

instance payOf_storable (c : Dev nD) (s : SemLoc sig) (d : Fin 3) : BI.Storable (upEmb : UEmb _ 𝕄) (payOf (F := F) aV bV c s d) := by
  unfold payOf
  split
  · infer_instance
  · split <;> infer_instance

theorem dutiesOf_I (i : I) : dutiesOf (.dma (semI i)) = {0} := by unfold dutiesOf; dsimp only; rw [dec_semI]
theorem amountOf'_I (i : I) : amountOf' (.dma (semI i)) = amt i := by unfold amountOf'; dsimp only; rw [dec_semI]
theorem payOf_I (c : Dev nD) (i : I) (d : Fin 3) : payOf (F := F) aV bV c (.dma (semI i)) d = pay aV bV c i := by unfold payOf; dsimp only; rw [dec_semI]

/-- One round: three units on a device's barrier semaphore, one transfer on each of its others. -/
def Rd : Rounds.Schedule (GSem nD τ sig) (Fin 3) 𝕄 where
  duties g r := if r = 0 ∧ g.1.2 = .tc then dutiesOf g.2 else ∅
  unitless _ := False
  amount g _ _ := amountOf' g.2
  payload g _ d := payOf aV bV g.1.1 g.2 d
  amount_pos g _ _ _ := amountOf'_pos g.2

instance Rd_payload_storable (g : GSem nD τ sig) (r : ℕ) (d : Fin 3) :
    BI.Storable (upEmb : UEmb _ 𝕄) ((Rd (F := F) aV bV).payload g r d) := payOf_storable aV bV g.1.1 g.2 d

/-- A transfer's cell on a device, and its barrier cell. -/
abbrev cellI (c : Dev nD) (i : I) : GSem nD τ sig := ((c : Thread nD τ), .dma (semI i))
abbrev cellB (c : Dev nD) : GSem nD τ sig := ((c : Thread nD τ), .reg barS)

theorem duties_I (c : Dev nD) (i : I) : (Rd (F := F) aV bV).duties (cellI c i) 0 = {0} :=
  (show (if (0 = 0 ∧ (cellI c i).1.2 = .tc) then dutiesOf (.dma (semI i)) else ∅) = _ from
    (if_pos ⟨rfl, rfl⟩).trans (dutiesOf_I i))
theorem duties_B (c : Dev nD) : (Rd (F := F) aV bV).duties (cellB c) 0 = Finset.univ :=
  (show (if (0 = 0 ∧ (cellB c).1.2 = .tc) then dutiesOf (.reg barS) else ∅) = _ from if_pos ⟨rfl, rfl⟩)
theorem duties_later (g : GSem nD τ sig) : ∀ r, 1 ≤ r → (Rd (F := F) aV bV).duties g r = ∅ :=
  fun r hr => if_neg fun h => by omega
theorem amount_I (c : Dev nD) (i : I) (d : Fin 3) : (Rd (F := F) aV bV).amount (cellI c i) 0 d = amt i := amountOf'_I i
theorem amount_B (c : Dev nD) (d : Fin 3) : (Rd (F := F) aV bV).amount (cellB c) 0 d = 1 := rfl
theorem payload_I (c : Dev nD) (i : I) (d : Fin 3) : (Rd (F := F) aV bV).payload (cellI c i) 0 d = pay aV bV c i := payOf_I aV bV c i d
theorem payload_B (c : Dev nD) (d : Fin 3) : (Rd (F := F) aV bV).payload (cellB c) 0 d = barPay c d := rfl
theorem expect_I (c : Dev nD) (i : I) : (Rd (F := F) aV bV).expect (cellI c i) 0 = amt i := by
  unfold Schedule.expect Schedule.amountOf; rw [duties_I, Finset.sum_singleton, amount_I]
theorem expect_B (c : Dev nD) : (Rd (F := F) aV bV).expect (cellB c) 0 = 3 := by
  unfold Schedule.expect Schedule.amountOf
  rw [duties_B, Finset.sum_congr rfl fun d _ => amount_B aV bV c d, Finset.sum_const, Finset.card_univ, Fintype.card_fin, smul_eq_mul]
theorem rest_I (c : Dev nD) (i : I) : bigSep ((Rd (F := F) aV bV).duties (cellI c i) 0 \ ∅)
    (fun d => (Rd (F := F) aV bV).payload (cellI c i) 0 d) = pay aV bV c i := by
  rw [Finset.sdiff_empty, duties_I, bigSep_singleton, payload_I]
theorem rest_B (c : Dev nD) : bigSep ((Rd (F := F) aV bV).duties (cellB c) 0 \ ∅)
    (fun d => (Rd (F := F) aV bV).payload (cellB c) 0 d) = bigSep Finset.univ (fun d : Fin 3 => barPay (F := F) c d) := by
  rw [Finset.sdiff_empty, duties_B]; rfl

end

/-! ## What a device owes, and the levels -/

/-- A thing a device owes: an entry signal along a dimension, or a transfer. -/
abbrev St : Type := Fin 3 ⊕ I

def tgtCell (c : Dev nD) (s : St) : GSem nD τ sig :=
  match s with | .inl d => cellB (par d c) | .inr i => cellI (tgt c i) i
def amtS (s : St) : ℕ := match s with | .inl _ => 1 | .inr i => amt i

/-- The level of a transfer's semaphore. -/
def lvI (i : I) : ℕ :=
  match i.2 with
  | 3 => 2 | 4 => 3 | 5 => 4 | 8 => 5 | 9 => 6 | _ => 0
def lvS (s : St) : ℕ := match s with | .inl _ => 1 | .inr i => lvI i

/-- The dues of a list. -/
def owedL (c : Dev nD) : List St → CellTallies nD τ sig Unit
  | [] => 0
  | s :: l => owedL c l + tallyAt (tgtCell c s) () (amtS s)

def L (g : GSem nD τ sig) : Finset Unit := if g.1.2 = .tc then {()} else ∅
def lv (g : GSem nD τ sig) (_ : Unit) : ℕ :=
  match g.2 with | .reg _ => 1 | .dma q => match dec q with | some i => lvI i | none => 0

theorem L_of_ne (g : GSem nD τ sig) (h : g.1.2 ≠ .tc) : L g = ∅ := if_neg h
theorem L_tc (c : Dev nD) (sm : SemLoc sig) : L ((c : Thread nD τ), sm) = {()} := if_pos rfl
theorem lv_I (c : Dev nD) (i : I) : lv (cellI c i) () = lvI i := by unfold lv; dsimp only; rw [dec_semI]
theorem lv_tgt (c : Dev nD) (s : St) : lv (tgtCell c s) () = lvS s := by
  cases s with
  | inl d => rfl
  | inr i => exact lv_I _ _
theorem L_tgt (c : Dev nD) (s : St) : L (tgtCell c s) = {()} := by cases s <;> exact if_pos rfl

theorem owedL_pos {c : Dev nD} {l : List St} {g : GSem nD τ sig} {u : Unit} (h : 0 < owedL c l g u) :
    ∃ s ∈ l, g = tgtCell c s := by
  induction l with
  | nil => exact absurd h (Nat.lt_irrefl 0)
  | cons s l ih =>
    unfold owedL at h
    rw [Pi.add_apply, Finsupp.add_apply, tallyAt_apply] at h
    by_cases hs : g = tgtCell c s ∧ u = ()
    · exact ⟨s, List.mem_cons_self, hs.1⟩
    · rw [if_neg hs, Nat.add_zero] at h
      obtain ⟨t, ht, e⟩ := ih h
      exact ⟨t, List.mem_cons_of_mem _ ht, e⟩

/-- A device may wait at a level below all it owes. -/
theorem mayWait_list (c : Dev nD) (sm : SemLoc sig) (l : List St) (n : ℕ) (hs : lv ((c : Thread nD τ), sm) () ≤ n)
    (hl : ∀ s ∈ l, n < lvS s) : (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨s, _, rfl⟩ := owedL_pos hg; rw [L_tgt]; exact Finset.mem_singleton_self _)
    (fun p hp => by rw [Finset.mem_singleton.mp hp]; exact hs)
    (fun g u hg => by obtain ⟨s, hm, rfl⟩ := owedL_pos hg; cases u; rw [lv_tgt]; exact hl s hm)

end Cert.SiluProof
-- ==== Proof.Moves.lean ====
/-
# Transfers of rows, and the waits

The transfer and wait rules of the protocol, with sources and destinations held as rows.
-/
module

public import proofs.«01_k».proof.Proof.Schedule

@[expose] public section

noncomputable section

namespace Cert.SiluProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The elements under a block of rows -/

section Slices

variable {R C : ℕ} {c : Thread nD τ} {sp : Space} {e : EltTy}

theorem slice_set (m : Memref sig c.2.kind sp (Sh R C) e) {off sz : Fin (Sh R C).rank → ℕ}
    (inb : ∀ a, off a + sz a ≤ (Sh R C).size a) (hr) {lo n : ℕ}
    (h0 : off 0 = lo) (h1 : off 1 = 0) (hn : sz 0 = n) (hC : sz 1 = C) :
    (m.slice (Rect.unit (s := Sh R C) off sz inb) hr).view.set = m.view.setOn (rowsF R C lo n) := by
  rw [← rect_set inb h0 h1 hn hC]; exact View.set_slice _ _

/-- Rows of a memref out to the elements under the block that a transfer names. -/
theorem rows_out (m : Memref sig c.2.kind sp (Sh R C) e) {off sz : Fin (Sh R C).rank → ℕ}
    (inb : ∀ a, off a + sz a ≤ (Sh R C).size a) (hr) {lo n : ℕ} {V : ℕ → ℕ → Elt F e}
    (h0 : off 0 = lo) (h1 : off 1 = 0) (hn : sz 0 = n) (hC : sz 1 = C) :
    rowsAt c m lo n V ⊢ (iprop(∃ f : Buf (Elt F) (m.view.loc c), ⌜∀ x ∈ rowsF R C lo n, m.view.read (Elt F) f x = V (x 0).val (x 1).val⌝
      ∗ ((m.slice (Rect.unit (s := Sh R C) off sz inb) hr).view.loc c
          ↦[(m.slice (Rect.unit (s := Sh R C) off sz inb) hr).view.set]{fullShare} f)) : sProp 𝕄) := by
  rw [slice_set m inb hr h0 h1 hn hC]; exact Entails.refl _

theorem rowsAny_out (m : Memref sig c.2.kind sp (Sh R C) e) {off sz : Fin (Sh R C).rank → ℕ}
    (inb : ∀ a, off a + sz a ≤ (Sh R C).size a) (hr) {lo n : ℕ}
    (h0 : off 0 = lo) (h1 : off 1 = 0) (hn : sz 0 = n) (hC : sz 1 = C) :
    rowsAny (F := F) c m lo n ⊢ (iprop(∃ f : Buf (Elt F) (m.view.loc c),
        ((m.slice (Rect.unit (s := Sh R C) off sz inb) hr).view.loc c
          ↦[(m.slice (Rect.unit (s := Sh R C) off sz inb) hr).view.set]{fullShare} f)) : sProp 𝕄) := by
  rw [slice_set m inb hr h0 h1 hn hC]; exact Entails.refl _

/-- The elements under the block a transfer read, as rows. -/
theorem rows_back (m : Memref sig c.2.kind sp (Sh R C) e) {off sz : Fin (Sh R C).rank → ℕ}
    (inb : ∀ a, off a + sz a ≤ (Sh R C).size a) (hr) {lo n : ℕ} {V : ℕ → ℕ → Elt F e} {f : Buf (Elt F) (m.view.loc c)}
    (h0 : off 0 = lo) (h1 : off 1 = 0) (hn : sz 0 = n) (hC : sz 1 = C)
    (hf : ∀ x ∈ rowsF R C lo n, m.view.read (Elt F) f x = V (x 0).val (x 1).val) :
    ((m.slice (Rect.unit (s := Sh R C) off sz inb) hr).view.loc c
      ↦[(m.slice (Rect.unit (s := Sh R C) off sz inb) hr).view.set]{fullShare} f : sProp 𝕄) ⊢ rowsAt c m lo n V := by
  rw [slice_set m inb hr h0 h1 hn hC]
  unfold rowsAt
  iintro H
  iexists f
  isplitr
  · ipureintro; exact hf
  · iexact H

/-- The elements under the block a transfer wrote, as rows. -/
theorem rows_landed {R' : ℕ} {c' : Thread nD τ} {sp' : Space} (m : Memref sig c.2.kind sp (Sh R C) e) (m' : Memref sig c'.2.kind sp' (Sh R' C) e)
    {off off' : Fin 2 → ℕ} {sz : Fin 2 → ℕ}
    (inb : ∀ a, off a + sz a ≤ (Sh R C).size a) (hr) (inb' : ∀ a, off' a + sz a ≤ (Sh R' C).size a) (hr') {lo lo' n : ℕ}
    {V V' : ℕ → ℕ → Elt F e} {f : Buf (Elt F) (m.view.loc c)} {fd : Buf (Elt F) (m'.view.loc c')}
    (h0 : off 0 = lo) (h1 : off 1 = 0) (h0' : off' 0 = lo') (h1' : off' 1 = 0) (hn : sz 0 = n) (hC : sz 1 = C)
    (hf : ∀ x ∈ rowsF R C lo n, m.view.read (Elt F) f x = V (x 0).val (x 1).val)
    (hV : ∀ i j, i < n → V' (lo' + i) j = V (lo + i) j) :
    ((m'.slice (Rect.unit (s := Sh R' C) off' sz inb') hr').view.loc c'
      ↦[(m'.slice (Rect.unit (s := Sh R' C) off' sz inb') hr').view.set]{fullShare}
        ((m'.slice (Rect.unit (s := Sh R' C) off' sz inb') hr').view.write (Elt F) fd
          ((m.slice (Rect.unit (s := Sh R C) off sz inb) hr).view.read (Elt F) f) Finset.univ) : sProp 𝕄)
      ⊢ rowsAt c' m' lo' n V' := by
  refine rows_back m' inb' hr' h0' h1' hn hC ?_
  intro x hx
  rw [← rect_set inb' h0' h1' hn hC] at hx
  obtain ⟨y, rfl⟩ := LoadRect.exists_idx_of_mem _ hx
  refine (View.read_slice_write_emb (v := m'.view) _ _ _ (x := y) (Finset.mem_univ y)).trans ?_
  have hy : (Rect.unit (s := Sh R C) off sz inb).toLoadRect.idx y ∈ rowsF R C lo n := by
    rw [← rect_set inb h0 h1 hn hC]; exact LoadRect.idx_mem _ _
  refine (hf _ hy).trans ?_
  have hy0 : (y 0).val < n := hn ▸ (y 0).isLt
  simp only [LoadRect.idx_apply, Rect.off_unit, Rect.stride_unit, Nat.one_mul, h0, h1, h0', h1', Nat.zero_add]
  exact (hV _ _ hy0).symm

end Slices

/-! ## The records every device has -/

theorem bigSep_one {ι : Type} [DecidableEq ι] {s : Finset ι} {Φ : ι → sProp 𝕄} {i : ι} (h : i ∈ s) : bigSep s Φ ⊢ Φ i := by
  exact (Entails.of_eq (bigSep_erase h)).trans (show iprop(Φ i ∗ bigSep (s.erase i) Φ) ⊢ Φ i by iintro ⟨H, -⟩; iexact H)

section

variable (aV bV : Dev nD → ℕ → ℕ → Elt F .f32)

/-- A semaphore of the protocol: a transfer's, or the barrier. -/
def csem : Option I → SemLoc sig
  | none => .reg barS
  | some i => .dma (semI i)
abbrev kcell (p : Dev nD × Option I) : GSem nD τ sig := ((p.1 : Thread nD τ), csem p.2)

variable (K : Dev nD × Option I → ℕ)

/-- A cell's invariant, and that its first round is reached. -/
def inv1 (p : Dev nD × Option I) : sProp 𝕄 :=
  iprop(cellInv ER (Rd (F := F) aV bV) (K p) (kcell p) ∗ reached ER (kcell p) 0)
instance inv1_persistent (p : Dev nD × Option I) : BI.Persistent (inv1 (F := F) aV bV K p) := by unfold inv1; infer_instance

/-- Every cell's record, and the levels. -/
def recs : sProp 𝕄 := iprop(bigSep Finset.univ (inv1 (F := F) aV bV K) ∗ levAts L lv)
instance recs_persistent : BI.Persistent (recs (F := F) aV bV K) := by unfold recs; infer_instance

theorem recs_I (c : Dev nD) (i : I) : recs (F := F) aV bV K
    ⊢ iprop(cellInv ER (Rd (F := F) aV bV) (K (c, some i)) (cellI c i) ∗ reached ER (cellI c i) 0) := by
  unfold recs
  iintro ⟨H, -⟩
  ihave H := (bigSep_one (Φ := inv1 (F := F) aV bV K) (Finset.mem_univ (c, some i))) $$ H
  unfold inv1
  iexact H

theorem recs_B (c : Dev nD) : recs (F := F) aV bV K
    ⊢ iprop(cellInv ER (Rd (F := F) aV bV) (K (c, none)) (cellB c) ∗ reached ER (cellB c) 0) := by
  unfold recs
  iintro ⟨H, -⟩
  ihave H := (bigSep_one (Φ := inv1 (F := F) aV bV K) (Finset.mem_univ (c, none))) $$ H
  unfold inv1
  iexact H

theorem recs_lev : recs (F := F) aV bV K ⊢ levAts L lv := by unfold recs; iintro ⟨-, H⟩; iexact H

/-- What a device owes, whatever it has recorded of its waits. -/
def ow (c : Dev nD) (l : List St) : sProp 𝕄 := iprop(∃ W, owes (c : Thread nD τ) (owedL c l) W)

variable {α : Type}

/-- An entry signal along a dimension. -/
theorem step_signal (c : Dev nD) (d : Fin 3) (n : Dev nD) (hn : n = par d c) {l : List St}
    {k : PUnit → Prog (TpuEff nD τ sig (Elt F) Λ₀ .tc) α} {Qp : α → sProp 𝕄} :
    iprop(recs aV bV K ∗ ow c (.inl d :: l) ∗ dutyTok ER (cellB (par d c)) 0 d ∗ barPay (F := F) (par d c) d)
      ⊢ iprop((ow c l -∗ wp frame (wpE (defs₀ (F := F)) Variants.none (c : Thread nD τ) none) Set.univ (k ⟨⟩) Qp)
        -∗ wp frame (wpE (defs₀ (F := F)) Variants.none (c : Thread nD τ) none) Set.univ
            (.op (.semSignal (n : Thread nD τ) barS 1) k) Qp) := by
  subst hn
  unfold ow
  iintro ⟨#Hr, ⟨%W, HO⟩, Ht, Hp⟩ Hk
  ihave #HB := (recs_B aV bV K (par d c)) $$ Hr
  icases HB with ⟨#HI, #HR⟩
  iapply (Rounds.wp_signal Variants.none ER (Rd aV bV) (c : Thread nD τ) none (dst := (par d c : Thread nD τ)) (κ := K (par d c, none))
      (d := d) (by rw [duties_B]; exact Finset.mem_univ _) (amount_B aV bV (par d c) d) () (owedL c l) rfl) $$ [HO Ht Hp]
  · isplitr; · iexact HI
    isplitl [HO]; · iexact HO
    isplitl [Ht]; · iexact Ht
    isplitl [Hp]; · rw [payload_B]; iexact Hp
    iexact HR
  iintro HO
  iapply Hk
  iexists W; iexact HO

/-- The wait for the three entry signals. -/
theorem step_enter (c : Dev nD) {l : List St} (hl : ∀ s ∈ l, 1 < lvS s)
    {k : PUnit → Prog (TpuEff nD τ sig (Elt F) Λ₀ .tc) α} {Qp : α → sProp 𝕄} :
    iprop(recs aV bV K ∗ ow c l ∗ cred (tallyAt (cellB c) () 3) ∗ atPos ER (cellB c) 0 ∅ 0)
      ⊢ iprop(((ow c l ∗ bigSep Finset.univ (fun d : Fin 3 => barPay (F := F) c d) ∗ semVal (cellB c) 0)
          -∗ wp frame (wpE (defs₀ (F := F)) Variants.none (c : Thread nD τ) none) Set.univ (k ⟨⟩) Qp)
        -∗ wp frame (wpE (defs₀ (F := F)) Variants.none (c : Thread nD τ) none) Set.univ (.op (.semWait barS 3) k) Qp) := by
  unfold ow
  iintro ⟨#Hr, ⟨%W, HO⟩, Hc, Ha⟩ Hk
  ihave #HB := (recs_B aV bV K c) $$ Hr
  icases HB with ⟨#HI, #HR⟩
  ihave #Hlev := (recs_lev aV bV K) $$ Hr
  iapply (Rounds.wp_wait_rest_token Variants.none ER (Rd aV bV) (c : Thread nD τ) none (κ := K (c, none))
      (wpE_semWait_eq Variants.none (c : Thread nD τ) none Set.univ) (Set.mem_univ _) () (O := owedL c l) (W := W) (R := 0) (m := 0) (T := ∅)
      (by rw [expect_B])) $$ [Hc HO Ha]
  · isplitr; · iexact HI
    isplitl [Hc]; · iexact Hc
    isplitl [HO]; · iexact HO
    isplitr; · iapply (mayWait_list c (.reg barS) l 1 le_rfl hl); iexact Hlev
    iexact Ha
  iintro ⟨HO, Ha, -, Hp⟩
  ihave Hp := (Entails.of_eq (rest_B aV bV c)) $$ Hp
  imod (Rounds.cell_close ER (Rd aV bV) (Set.mem_univ (K (c, none))) (fun h => h) (R := 0 + 1) (duties_later aV bV (cellB c))) $$ [Ha] with Hz
  · isplitr; · iexact HI
    iexact Ha
  iapply Hk
  isplitl [HO]; · iexists _; iexact HO
  isplitl [Hp]; · iexact Hp
  iexact Hz

/-- The wait for a transfer: what it hands over, and its semaphore at zero again. -/
theorem step_wait (c : Dev nD) (i : I) {sp sp' : Space} {s s' : Shape} {e e' : EltTy} {κ' : Kind} {sem : DmaSem sig}
    {src : Memref sig .tc sp' s' e'} {dst : Memref sig κ' sp s e} {hsrc : src.view.WordExact} {hdst : dst.view.WordExact}
    (hsem : sem = semI i) (hcr : dst.view.dmaCredit = amt i) {l : List St} (hl : ∀ s ∈ l, lvI i < lvS s)
    {k : PUnit → Prog (TpuEff nD τ sig (Elt F) Λ₀ .tc) α} {Qp : α → sProp 𝕄} :
    iprop(recs aV bV K ∗ ow c l ∗ cred (tallyAt (cellI c i) () (amt i)) ∗ atPos ER (cellI c i) 0 ∅ 0)
      ⊢ iprop(((ow c l ∗ pay aV bV c i ∗ semVal (cellI c i) 0)
          -∗ wp frame (wpE (defs₀ (F := F)) Variants.none (c : Thread nD τ) none) Set.univ (k ⟨⟩) Qp)
        -∗ wp frame (wpE (defs₀ (F := F)) Variants.none (c : Thread nD τ) none) Set.univ (.op (.waitDma2 sem src dst hsrc hdst) k) Qp) := by
  subst hsem
  unfold ow
  iintro ⟨#Hr, ⟨%W, HO⟩, Hc, Ha⟩ Hk
  ihave #HB := (recs_I aV bV K c i) $$ Hr
  icases HB with ⟨#HI, #HR⟩
  ihave #Hlev := (recs_lev aV bV K) $$ Hr
  rw [← hcr]
  iapply (Rounds.wp_wait_rest_token Variants.none ER (Rd aV bV) (c : Thread nD τ) none (κ := K (c, some i))
      (wpE_waitDma2_eq Variants.none (c : Thread nD τ) none Set.univ) (Set.mem_univ _) () (O := owedL c l) (W := W) (R := 0) (m := 0) (T := ∅)
      (by rw [Nat.zero_add, hcr]; exact (expect_I aV bV c i).symm)) $$ [Hc HO Ha]
  · isplitr; · iexact HI
    isplitl [Hc]; · iexact Hc
    isplitl [HO]; · iexact HO
    isplitr; · iapply (mayWait_list c (.dma (semI i)) l (lvI i) (le_of_eq (lv_I c i)) hl); iexact Hlev
    iexact Ha
  iintro ⟨HO, Ha, -, Hp⟩
  ihave Hp := (Entails.of_eq (rest_I aV bV c i)) $$ Hp
  imod (Rounds.cell_close ER (Rd aV bV) (Set.mem_univ (K (c, some i))) (fun h => h) (R := 0 + 1) (duties_later aV bV (cellI c i))) $$ [Ha] with Hz
  · isplitr; · iexact HI
    iexact Ha
  iapply Hk
  isplitl [HO]; · iexists _; iexact HO
  isplitl [Hp]; · iexact Hp
  iexact Hz

section Sends

variable {R R' C : ℕ} {sp sp' : Space} {e : EltTy}

/-- A transfer to a partner whose rows go with it. -/
theorem step_send_over (c : Dev nD) (i j : I) (n : Dev nD) (hn : n = tgt c j)
    (m : Memref sig .tc sp (Sh R C) e) (m' : Memref sig .tc sp' (Sh R' C) e)
    {off off' sz : Fin 2 → ℕ} {inb : ∀ a, off a + sz a ≤ (Sh R C).size a} {hr} {inb' : ∀ a, off' a + sz a ≤ (Sh R' C).size a} {hr'}
    {lo lo' nn : ℕ} {V V' : ℕ → ℕ → Elt F e}
    (h0 : off 0 = lo) (h1 : off 1 = 0) (h0' : off' 0 = lo') (h1' : off' 1 = 0) (hs : sz 0 = nn) (hC : sz 1 = C)
    (hV : ∀ i j, i < nn → V' (lo' + i) j = V (lo + i) j)
    {sS sR : DmaSem sig} (hsS : sS = semI i) (hsR : sR = semI j)
    (hcr : (m'.slice (Rect.unit (s := Sh R' C) off' sz inb') hr').view.dmaCredit = amt j) (hij : amt i = amt j)
    (hp1 : (emp : sProp 𝕄) ⊢ pay aV bV c i)
    (hp2 : iprop(rowsAt (tgt c j : Thread nD τ) m' lo' nn V' ∗ rowsAny (c : Thread nD τ) m lo nn) ⊢ pay aV bV (tgt c j) j)
    {hsc : (m'.slice (Rect.unit (s := Sh R' C) off' sz inb') hr').view.ref.isScScratch = false} {hsrc hdst}
    {hsem : DmaTarget.Typed sp (.dma sR) (.remote (n : Thread nD τ) (m'.slice (Rect.unit (s := Sh R' C) off' sz inb') hr') (.dma sS) hsc)}
    {l : List St} {k : PUnit → Prog (TpuEff nD τ sig (Elt F) Λ₀ .tc) α} {Qp : α → sProp 𝕄} :
    iprop(recs aV bV K ∗ ow c (.inr j :: l) ∗ rowsAt (c : Thread nD τ) m lo nn V ∗ rowsAny (tgt c j : Thread nD τ) m' lo' nn
        ∗ dutyTok ER (cellI c i) 0 0 ∗ dutyTok ER (cellI (tgt c j) j) 0 0)
      ⊢ iprop(((ow c l ∗ cred (tallyAt (cellI c i) () (amt i)))
          -∗ wp frame (wpE (defs₀ (F := F)) Variants.none (c : Thread nD τ) none) Set.univ (k ⟨⟩) Qp)
        -∗ wp frame (wpE (defs₀ (F := F)) Variants.none (c : Thread nD τ) none) Set.univ
          (.op (.enqueueDma (m.slice (Rect.unit (s := Sh R C) off sz inb) hr)
            (.remote (n : Thread nD τ) (m'.slice (Rect.unit (s := Sh R' C) off' sz inb') hr') (.dma sS) hsc) (.dma sR) hsrc hdst hsem) k) Qp) := by
  subst hn hsS hsR
  unfold ow
  iintro ⟨#Hr, ⟨%W, HO⟩, Hs, Hd, Ht1, Ht2⟩ Hk
  ihave #HB := (recs_I aV bV K c i) $$ Hr
  icases HB with ⟨#HI1, #HR1⟩
  ihave #HB := (recs_I aV bV K (tgt c j) j) $$ Hr
  icases HB with ⟨#HI2, #HR2⟩
  ihave Hs := (rows_out (c := (c : Thread nD τ)) m inb hr h0 h1 hs hC) $$ Hs
  icases Hs with ⟨%f, %hf, Hs⟩
  ihave Hd := (rowsAny_out (c := (tgt c j : Thread nD τ)) m' inb' hr' h0' h1' hs hC) $$ Hd
  icases Hd with ⟨%fd, Hd⟩
  rw [hij]
  iapply (Rounds.wp_send_landing_pointsTo Variants.none ER (Rd aV bV) (c : Thread nD τ) none (κ₁ := K (c, some i)) (κ₂ := K (tgt c j, some j))
    (r₁ := 0) (r₂ := 0) (d₁ := 0) (d₂ := 0) (c' := (tgt c j : Thread nD τ)) (sS := .dma (semI i)) (sem := .dma (semI j)) (sp' := sp') (e := e) (s := ⟨2, sz⟩)
    (src := m.slice (Rect.unit (s := Sh R C) off sz inb) hr) (dst := m'.slice (Rect.unit (s := Sh R' C) off' sz inb') hr') (fs := f) (fd := fd)
    (by rw [duties_I]; exact Finset.mem_singleton_self _) (by rw [duties_I]; exact Finset.mem_singleton_self _)
    () () (amt j) hcr ((amount_I aV bV c i 0).trans hij) (amount_I aV bV (tgt c j) j 0) (owedL c l) rfl (W := W)
    (by rw [payload_I]; exact hp1)
    (by
      rw [payload_I]
      refine BIBase.Entails.trans ?_ hp2
      exact BIClass.sep_mono (rows_landed (c := (c : Thread nD τ)) (c' := (tgt c j : Thread nD τ)) m m' inb hr inb' hr' h0 h1 h0' h1' hs hC hf hV)
        ((rows_back (c := (c : Thread nD τ)) m inb hr h0 h1 hs hC hf).trans (rowsAt_any _ _ _ _)))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [HO]; · iexists W; iexact HO
  iexact Hc

/-- A transfer to a partner whose rows come back with the wait for it. -/
theorem step_send (c : Dev nD) (i j : I) (n : Dev nD) (hn : n = tgt c j)
    (m : Memref sig .tc sp (Sh R C) e) (m' : Memref sig .tc sp' (Sh R' C) e)
    {off off' sz : Fin 2 → ℕ} {inb : ∀ a, off a + sz a ≤ (Sh R C).size a} {hr} {inb' : ∀ a, off' a + sz a ≤ (Sh R' C).size a} {hr'}
    {lo lo' nn : ℕ} {V V' : ℕ → ℕ → Elt F e}
    (h0 : off 0 = lo) (h1 : off 1 = 0) (h0' : off' 0 = lo') (h1' : off' 1 = 0) (hs : sz 0 = nn) (hC : sz 1 = C)
    (hV : ∀ i j, i < nn → V' (lo' + i) j = V (lo + i) j)
    {sS sR : DmaSem sig} (hsS : sS = semI i) (hsR : sR = semI j)
    (hcr : (m'.slice (Rect.unit (s := Sh R' C) off' sz inb') hr').view.dmaCredit = amt j) (hij : amt i = amt j)
    (hp1 : rowsAt (c : Thread nD τ) m lo nn V ⊢ pay aV bV c i)
    (hp2 : rowsAt (tgt c j : Thread nD τ) m' lo' nn V' ⊢ pay aV bV (tgt c j) j)
    {hsc : (m'.slice (Rect.unit (s := Sh R' C) off' sz inb') hr').view.ref.isScScratch = false} {hsrc hdst}
    {hsem : DmaTarget.Typed sp (.dma sR) (.remote (n : Thread nD τ) (m'.slice (Rect.unit (s := Sh R' C) off' sz inb') hr') (.dma sS) hsc)}
    {l : List St} {k : PUnit → Prog (TpuEff nD τ sig (Elt F) Λ₀ .tc) α} {Qp : α → sProp 𝕄} :
    iprop(recs aV bV K ∗ ow c (.inr j :: l) ∗ rowsAt (c : Thread nD τ) m lo nn V ∗ rowsAny (tgt c j : Thread nD τ) m' lo' nn
        ∗ dutyTok ER (cellI c i) 0 0 ∗ dutyTok ER (cellI (tgt c j) j) 0 0)
      ⊢ iprop(((ow c l ∗ cred (tallyAt (cellI c i) () (amt i)))
          -∗ wp frame (wpE (defs₀ (F := F)) Variants.none (c : Thread nD τ) none) Set.univ (k ⟨⟩) Qp)
        -∗ wp frame (wpE (defs₀ (F := F)) Variants.none (c : Thread nD τ) none) Set.univ
          (.op (.enqueueDma (m.slice (Rect.unit (s := Sh R C) off sz inb) hr)
            (.remote (n : Thread nD τ) (m'.slice (Rect.unit (s := Sh R' C) off' sz inb') hr') (.dma sS) hsc) (.dma sR) hsrc hdst hsem) k) Qp) := by
  subst hn hsS hsR
  unfold ow
  iintro ⟨#Hr, ⟨%W, HO⟩, Hs, Hd, Ht1, Ht2⟩ Hk
  ihave #HB := (recs_I aV bV K c i) $$ Hr
  icases HB with ⟨#HI1, #HR1⟩
  ihave #HB := (recs_I aV bV K (tgt c j) j) $$ Hr
  icases HB with ⟨#HI2, #HR2⟩
  ihave Hs := (rows_out (c := (c : Thread nD τ)) m inb hr h0 h1 hs hC) $$ Hs
  icases Hs with ⟨%f, %hf, Hs⟩
  ihave Hd := (rowsAny_out (c := (tgt c j : Thread nD τ)) m' inb' hr' h0' h1' hs hC) $$ Hd
  icases Hd with ⟨%fd, Hd⟩
  rw [hij]
  iapply (Rounds.wp_send_pointsTo Variants.none ER (Rd aV bV) (c : Thread nD τ) none (κ₁ := K (c, some i)) (κ₂ := K (tgt c j, some j))
    (r₁ := 0) (r₂ := 0) (d₁ := 0) (d₂ := 0) (c' := (tgt c j : Thread nD τ)) (sS := .dma (semI i)) (sem := .dma (semI j)) (sp' := sp') (e := e) (s := ⟨2, sz⟩)
    (src := m.slice (Rect.unit (s := Sh R C) off sz inb) hr) (dst := m'.slice (Rect.unit (s := Sh R' C) off' sz inb') hr') (fs := f) (fd := fd)
    (by rw [duties_I]; exact Finset.mem_singleton_self _) (by rw [duties_I]; exact Finset.mem_singleton_self _)
    () () (amt j) hcr ((amount_I aV bV c i 0).trans hij) (amount_I aV bV (tgt c j) j 0) (owedL c l) rfl (W := W)
    (by rw [payload_I]; exact (rows_back (c := (c : Thread nD τ)) m inb hr h0 h1 hs hC hf).trans hp1)
    (by
      rw [payload_I]
      exact (rows_landed (c := (c : Thread nD τ)) (c' := (tgt c j : Thread nD τ)) m m' inb hr inb' hr' h0 h1 h0' h1' hs hC hf hV).trans hp2)) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [HO]; · iexists W; iexact HO
  iexact Hc

/-- A transfer within the device. -/
theorem step_copy (c : Dev nD) (i : I)
    (m : Memref sig .tc sp (Sh R C) e) (m' : Memref sig .tc sp' (Sh R' C) e)
    {off off' sz : Fin 2 → ℕ} {inb : ∀ a, off a + sz a ≤ (Sh R C).size a} {hr} {inb' : ∀ a, off' a + sz a ≤ (Sh R' C).size a} {hr'}
    {lo lo' nn : ℕ} {V V' : ℕ → ℕ → Elt F e}
    (h0 : off 0 = lo) (h1 : off 1 = 0) (h0' : off' 0 = lo') (h1' : off' 1 = 0) (hs : sz 0 = nn) (hC : sz 1 = C)
    (hV : ∀ i j, i < nn → V' (lo' + i) j = V (lo + i) j)
    {sS : DmaSem sig} (hsS : sS = semI i)
    (hcr : (m'.slice (Rect.unit (s := Sh R' C) off' sz inb') hr').view.dmaCredit = amt i)
    (hp : iprop(rowsAt (c : Thread nD τ) m' lo' nn V' ∗ rowsAt (c : Thread nD τ) m lo nn V) ⊢ pay aV bV c i)
    {hsrc hdst}
    {hsem}
    {k : PUnit → Prog (TpuEff nD τ sig (Elt F) Λ₀ .tc) α} {Qp : α → sProp 𝕄} :
    iprop(recs aV bV K ∗ rowsAt (c : Thread nD τ) m lo nn V ∗ rowsAny (c : Thread nD τ) m' lo' nn ∗ dutyTok ER (cellI c i) 0 0)
      ⊢ iprop((cred (tallyAt (cellI c i) () (amt i))
          -∗ wp frame (wpE (defs₀ (F := F)) Variants.none (c : Thread nD τ) none) Set.univ (k ⟨⟩) Qp)
        -∗ wp frame (wpE (defs₀ (F := F)) Variants.none (c : Thread nD τ) none) Set.univ
          (.op (.enqueueDma (m.slice (Rect.unit (s := Sh R C) off sz inb) hr)
            (.here (m'.slice (Rect.unit (s := Sh R' C) off' sz inb') hr')) (.dma sS) hsrc hdst hsem) k) Qp) := by
  subst hsS
  iintro ⟨#Hr, Hs, Hd, Ht1⟩ Hk
  ihave #HB := (recs_I aV bV K c i) $$ Hr
  icases HB with ⟨#HI1, #HR1⟩
  ihave Hs := (rows_out (c := (c : Thread nD τ)) m inb hr h0 h1 hs hC) $$ Hs
  icases Hs with ⟨%f, %hf, Hs⟩
  ihave Hd := (rowsAny_out (c := (c : Thread nD τ)) m' inb' hr' h0' h1' hs hC) $$ Hd
  icases Hd with ⟨%fd, Hd⟩
  iapply (Rounds.wp_copy_pointsTo Variants.none ER (Rd aV bV) (c : Thread nD τ) none (κ := K (c, some i))
    (r := 0) (d := 0) (sem := .dma (semI i)) (sp' := sp') (e := e) (s := ⟨2, sz⟩)
    (src := m.slice (Rect.unit (s := Sh R C) off sz inb) hr) (dst := m'.slice (Rect.unit (s := Sh R' C) off' sz inb') hr') (fs := f) (fd := fd)
    (by rw [duties_I]; exact Finset.mem_singleton_self _) () (amt i) hcr (amount_I aV bV c i 0)
    (by
      rw [payload_I]
      refine BIBase.Entails.trans ?_ hp
      exact BIClass.sep_mono (rows_landed (c := (c : Thread nD τ)) (c' := (c : Thread nD τ)) m m' inb hr inb' hr' h0 h1 h0' h1' hs hC hf hV)
        (rows_back (c := (c : Thread nD τ)) m inb hr h0 h1 hs hC hf))) $$ [Hs Hd Ht1]
  · isplitr; · iexact HI1
    isplitl [Hs]; · iexact Hs
    isplitl [Hd]; · iexact Hd
    isplitl [Ht1]; · iexact Ht1
    iexact HR1
  iexact Hk

end Sends

end

end Cert.SiluProof
-- ==== Proof.Steps.lean ====
/-
# The steps of a group

What a device holds of a group between the steps, and each step of a group as one rule.
-/
module

public import proofs.«01_k».proof.Proof.Moves

@[expose] public section

noncomputable section

namespace Cert.SiluProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What a device still owes -/

/-- All a device owes, in the order it pays. -/
def todo : List St :=
  [.inl 0, .inl 1, .inl 2,
   .inr (0, 3), .inr (1, 3), .inr (2, 3), .inr (3, 3), .inr (4, 3), .inr (5, 3),
   .inr (0, 4), .inr (1, 4), .inr (2, 4), .inr (3, 4), .inr (4, 4), .inr (5, 4),
   .inr (0, 5), .inr (1, 5), .inr (2, 5), .inr (3, 5), .inr (4, 5), .inr (5, 5),
   .inr (0, 8), .inr (1, 8), .inr (2, 8), .inr (3, 8), .inr (4, 8), .inr (5, 8),
   .inr (0, 9), .inr (1, 9), .inr (2, 9), .inr (3, 9), .inr (4, 9), .inr (5, 9)]

/-- What remains after `n` payments. -/
def tl (n : ℕ) : List St := todo.drop n

theorem tl_bar (d : Fin 3) : tl d.val = .inl d :: tl (d.val + 1) := by revert d; decide
theorem tl_0 (g : Fin 6) : tl (3 + g.val) = .inr (g, 3) :: tl (3 + g.val + 1) := by revert g; decide
theorem tl_1 (g : Fin 6) : tl (9 + g.val) = .inr (g, 4) :: tl (9 + g.val + 1) := by revert g; decide
theorem tl_2 (g : Fin 6) : tl (15 + g.val) = .inr (g, 5) :: tl (15 + g.val + 1) := by revert g; decide
theorem tl_3 (g : Fin 6) : tl (21 + g.val) = .inr (g, 8) :: tl (21 + g.val + 1) := by revert g; decide
theorem tl_4 (g : Fin 6) : tl (27 + g.val) = .inr (g, 9) :: tl (27 + g.val + 1) := by revert g; decide

theorem lv_bar : ∀ s ∈ tl 3, 1 < lvS s := by decide
theorem lv_1 (g : Fin 6) : ∀ s ∈ tl (9 + g.val), 2 < lvS s := by revert g; decide
theorem lv_2 (g : Fin 6) : ∀ s ∈ tl (15 + g.val), 3 < lvS s := by revert g; decide
theorem lv_3 (g : Fin 6) : ∀ s ∈ tl (21 + g.val), 4 < lvS s := by revert g; decide
theorem lv_4 (g : Fin 6) : ∀ s ∈ tl (27 + g.val), 5 < lvS s := by revert g; decide

/-! ## What a device holds of a group -/

/-- A transfer's duty, the position at its semaphore, its credit, and its semaphore at zero. -/
def tk (c : Dev nD) (g : Fin 6) (k : Fin 11) : sProp 𝕄 := dutyTok ER (cellI (tgt c (g, k)) (g, k)) 0 0
def ap (c : Dev nD) (g : Fin 6) (k : Fin 11) : sProp 𝕄 := atPos ER (cellI c (g, k)) 0 ∅ 0
def cd (c : Dev nD) (g : Fin 6) (k : Fin 11) : sProp 𝕄 := cred (tallyAt (cellI c (g, k)) () (amt (g, k)))
def zz (c : Dev nD) (g : Fin 6) (k : Fin 11) : sProp 𝕄 := semVal (cellI c (g, k)) 0

section

variable (aV bV : Dev nD → ℕ → ℕ → Elt F .f32)

/-- Rows of the running sums, at stated and at unstated contents. -/
abbrev zAt (c : Dev nD) (lo n : ℕ) (V : ℕ → ℕ → Elt F .bf16) : sProp 𝕄 := rowsAt (c : Thread nD τ) zM lo n V
abbrev zAny (c : Dev nD) (lo n : ℕ) : sProp 𝕄 := rowsAny (F := F) (c : Thread nD τ) zM lo n

/-- What the later steps of a group take. -/
def F6 (c : Dev nD) (g : Fin 6) : sProp 𝕄 := ap (F := F) c g 10
def F5 (c : Dev nD) (g : Fin 6) : sProp 𝕄 :=
  iprop(ap c g 7 ∗ ap c g 9 ∗ cd c g 9 ∗ tk c g 10 ∗ rowsAny (F := F) (c : Thread nD τ) fM (start g) (4 * Q g)
    ∗ rowsAny (F := F) (c : Thread nD τ) oM (start g) (4 * Q g) ∗ F6 c g)
def F4 (c : Dev nD) (g : Fin 6) : sProp 𝕄 := iprop(ap c g 6 ∗ ap c g 8 ∗ cd c g 8 ∗ tk c g 7 ∗ tk c g 9 ∗ F5 (F := F) c g)
def F3 (c : Dev nD) (g : Fin 6) : sProp 𝕄 := iprop(ap c g 2 ∗ ap c g 5 ∗ cd c g 5 ∗ tk c g 6 ∗ tk c g 8 ∗ F4 (F := F) c g)
def F2 (c : Dev nD) (g : Fin 6) : sProp 𝕄 :=
  iprop(ap c g 1 ∗ ap c g 4 ∗ cd c g 4 ∗ tk c g 2 ∗ tk c g 5 ∗ win (F := F) (pr g 2 c) g 2 ∗ F3 (F := F) c g)
def F1 (c : Dev nD) (g : Fin 6) : sProp 𝕄 :=
  iprop(ap c g 0 ∗ ap c g 3 ∗ cd c g 3 ∗ tk c g 1 ∗ tk c g 4 ∗ win (F := F) (pr g 1 c) g 1 ∗ F2 (F := F) c g)

/-- What the earlier steps of a group leave. -/
def D1 (c : Dev nD) (g : Fin 6) : sProp 𝕄 := iprop(zz c g 0 ∗ zz c g 3 ∗ win (F := F) c g 0)
def D2 (c : Dev nD) (g : Fin 6) : sProp 𝕄 := iprop(zz c g 1 ∗ zz c g 4 ∗ win (F := F) c g 1 ∗ D1 c g)
def D3 (c : Dev nD) (g : Fin 6) : sProp 𝕄 := iprop(zz c g 2 ∗ zz c g 5 ∗ win (F := F) c g 2 ∗ D2 c g)
def D4 (c : Dev nD) (g : Fin 6) : sProp 𝕄 := iprop(zz c g 6 ∗ zz c g 8 ∗ D3 (F := F) c g)
def D5 (c : Dev nD) (g : Fin 6) : sProp 𝕄 := iprop(zz c g 7 ∗ zz c g 9 ∗ zAny (F := F) c (start g) (4 * Q g) ∗ D4 c g)

/-- What a device holds of a group before each of its steps, and at the end. -/
def S0 (c : Dev nD) (g : Fin 6) : sProp 𝕄 :=
  iprop(zAny (F := F) c (K0 g (pr g 0 c)) (H g) ∗ win (pr g 0 c) g 0 ∗ tk c g 0 ∗ tk c g 3 ∗ zAny c (K0 g c) (H g) ∗ F1 c g)
def S0b (c : Dev nD) (g : Fin 6) : sProp 𝕄 := iprop(cd c g 0 ∗ zAny (F := F) c (K0 g c) (H g) ∗ F1 c g)
def S1 (c : Dev nD) (g : Fin 6) : sProp 𝕄 := iprop(cd c g 0 ∗ zAt c (K0 g c) (H g) (V0 aV bV c g) ∗ F1 c g)
def S2 (c : Dev nD) (g : Fin 6) : sProp 𝕄 :=
  iprop(cd c g 1 ∗ zAt c (K1 g c) (Q g) (V1 aV bV c g) ∗ zAny (pr g 0 c) (K0 g c) (H g) ∗ F2 c g ∗ D1 c g)
def S3 (c : Dev nD) (g : Fin 6) : sProp 𝕄 :=
  iprop(cd c g 2 ∗ zAny (F := F) (pr g 1 c) (K1 g c) (Q g) ∗ zAny (pr g 0 c) (K0 g c) (H g) ∗ F3 c g ∗ D2 c g)
def S4 (c : Dev nD) (g : Fin 6) : sProp 𝕄 := iprop(cd c g 6 ∗ zAny (F := F) (pr g 0 c) (K0 g c) (H g) ∗ F4 c g ∗ D3 c g)
def S5 (c : Dev nD) (g : Fin 6) : sProp 𝕄 := iprop(cd c g 7 ∗ F5 (F := F) c g ∗ D4 c g)
def S6 (c : Dev nD) (g : Fin 6) : sProp 𝕄 := iprop(cd c g 10 ∗ F6 (F := F) c g ∗ D5 c g)
def S7 (c : Dev nD) (g : Fin 6) : sProp 𝕄 :=
  iprop(rowsAt (c : Thread nD τ) oM (start g) (4 * Q g) (outV aV bV c g)
    ∗ rowsAny (F := F) (c : Thread nD τ) fM (start g) (4 * Q g) ∗ zz c g 10 ∗ D5 c g)

variable (K : Dev nD × Option I → ℕ)

/-- What every step has: the records, the operands, and what is still owed. -/
def Com (c : Dev nD) (n : ℕ) : sProp 𝕄 :=
  iprop(recs aV bV K ∗ rowsAt (c : Thread nD τ) aM 0 2048 (aV c) ∗ rowsAt (c : Thread nD τ) bbM 0 1024 (bbV bV c) ∗ ow c (tl n))

abbrev WP {α : Type} (c : Dev nD) (p : Prog (TpuEff nD τ sig (Elt F) Λ₀ .tc) α) (Qp : α → sProp 𝕄) : sProp 𝕄 :=
  wp frame (wpE (defs₀ (F := F)) Variants.none (c : Thread nD τ) none) Set.univ p Qp

/-- The values of a block of `n` rows of `C` columns. -/
abbrev Vn (F : FTy → Type) [FloatOps F] (n C : ℕ) (e : EltTy) : Type := (⟨2, ![n, C]⟩ : Shape).Idx → Elt F e

variable {α : Type}

theorem K0_hi (g : Fin 6) (c : Dev nD) : K0 g c + H g ≤ 2048 := by
  have := K0_mem g c; have := start_le g; omega
theorem K0_or (g : Fin 6) (c : Dev nD) : K0 g c = start g ∨ K0 g c = start g + H g := by
  rcases K0_cases g c with h | h <;> simp [h.1]

/-- The product of the half a device gives away, and its transfer. -/
theorem step0 (c : Dev nD) (g : Fin 6) (n N N' : ℕ) (hn : n = H g) (hN : N = 3 + g.val) (hN' : N' = N + 1) (p : Dev nD) (hp : p = pr g 0 c)
    {offa offz offs : Fin 2 → ℕ} (ha : offa = ![K0 g (pr g 0 c), 0]) (hz : offz = ![K0 g (pr g 0 c), 0]) (hs : offs = ![K0 g (pr g 0 c), 0])
    {pf : Vn F n 1024 .f32 → Vn F 1024 2048 .bf16 → Vn F n 2048 .bf16} (hpf : ∀ v w, pf v w = dotG (F := F) n v w)
    {sS sR : DmaSem sig} (hsS : sS = semI (g, 0)) (hsR : sR = semI (g, 3))
    {inba hla} {inbb hlb : ∀ _ : Vn F n 1024 .f32, _} {inbz hlz : ∀ (_ : Vn F n 1024 .f32) (_ : Vn F 1024 2048 .bf16), _}
    {inbz' hx hm : ∀ (_ : Vn F n 1024 .f32) (_ : Vn F 1024 2048 .bf16) (_ : Vn F n 2048 .bf16), _}
    {inbs inbr hr hr' hsc hsrc hdst : ∀ (_ : Vn F n 1024 .f32) (_ : Vn F 1024 2048 .bf16) (_ : Vn F n 2048 .bf16) (_ : PUnit), _}
    {hsem : ∀ (v : Vn F n 1024 .f32) (w : Vn F 1024 2048 .bf16) (u : Vn F n 2048 .bf16) (e : PUnit), DmaTarget.Typed .vmem (.dma sR) (.remote (p : Thread nD τ)
      ((rM g).slice (Rect.unit (s := Sh (4 * Q g) 2048) ![0, 0] ![n, 2048] (inbr v w u e)) (hr' v w u e)) (.dma sS) (hsc v w u e))}
    {k : Vn F n 1024 .f32 → Vn F 1024 2048 .bf16 → Vn F n 2048 .bf16 → PUnit → PUnit → Prog (TpuEff nD τ sig (Elt F) Λ₀ .tc) α} {Qp : α → sProp 𝕄} :
    Com aV bV K c N ⊢ iprop(S0 c g -∗ (Com aV bV K c N' -∗ S0b c g -∗ ∀ v w u e e', WP c (k v w u e e') Qp) -∗ WP c
      (.op (.load aM (Rect.unit (s := Sh 2048 1024) offa ![n, 1024] inba).toLoadRect hla) fun v =>
        .op (.load bbM (Rect.unit (s := Sh 1024 2048) ![0, 0] ![1024, 2048] (inbb v)).toLoadRect (hlb v)) fun w =>
        .op (.load zM (Rect.unit (s := Sh 2048 2048) offz ![n, 2048] (inbz v w)).toLoadRect (hlz v w)) fun u =>
        .op (.store zM (Rect.unit (s := Sh 2048 2048) offz ![n, 2048] (inbz' v w u)) (pf v w) Finset.univ (hx v w u) (hm v w u)) fun e =>
        .op (.enqueueDma (zM.slice (Rect.unit (s := Sh 2048 2048) offs ![n, 2048] (inbs v w u e)) (hr v w u e))
          (.remote (p : Thread nD τ) ((rM g).slice (Rect.unit (s := Sh (4 * Q g) 2048) ![0, 0] ![n, 2048] (inbr v w u e)) (hr' v w u e)) (.dma sS) (hsc v w u e))
          (.dma sR) (hsrc v w u e) (hdst v w u e) (hsem v w u e)) fun e' => k v w u e e') Qp) := by
  subst hn hN hN' ha hz hs
  unfold Com S0 S0b
  rw [tl_0]
  iintro ⟨#Hr, Ha, Hb, HO⟩ ⟨Hz, Hw, Ht0, Ht3, Hz', HF⟩ Hk
  have hlo := K0_hi g (pr g 0 c)
  iapply (rows_load Variants.none (c := (c : Thread nD τ)) aM (lo' := K0 g (pr g 0 c)) (n' := H g) rfl rfl rfl rfl (Nat.zero_le _)
    (by omega)) $$ Ha
  iintro Ha
  iapply (rows_load Variants.none (c := (c : Thread nD τ)) bbM (lo' := 0) (n' := 1024) rfl rfl rfl rfl le_rfl le_rfl) $$ Hb
  iintro Hb
  iapply (rows_load_any Variants.none (c := (c : Thread nD τ)) zM (lo' := K0 g (pr g 0 c)) (n' := H g) rfl rfl rfl rfl le_rfl le_rfl) $$ Hz
  iintro %u Hz
  rw [hpf]
  iapply (rows_store Variants.none (c := (c : Thread nD τ)) zM (lo := K0 g (pr g 0 c)) (n := H g) (V := V0 aV bV c g) rfl rfl rfl rfl
    (dotG_rows aV bV c g (K0 g (pr g 0 c)) (K0_or g _))) $$ Hz
  iintro Hz
  unfold win tk cd
  iapply (step_send_over aV bV K c (g, 0) (g, 3) p hp zM (rM g) (lo := K0 g (pr g 0 c)) (lo' := 0) (nn := H g) (V := V0 aV bV c g)
    (V' := fun i j => V0 aV bV c g (K0 g (pr g 0 c) + i) j) rfl rfl rfl rfl rfl rfl
    (fun i j _ => by rw [Nat.zero_add]) hsS hsR (credit_r g _ _ _ _) rfl (Entails.refl _)
    (by
      show _ ⊢ iprop(rowsAt (pr g 0 c : Thread nD τ) (rM g) 0 (H g) (fun i j => V0 aV bV (pr g 0 (pr g 0 c)) g (K0 g (pr g 0 c) + i) j)
        ∗ rowsAny (pr g 0 (pr g 0 c) : Thread nD τ) zM (K0 g (pr g 0 c)) (H g))
      rw [show pr g 0 (pr g 0 c) = c from par_par _ _]
      exact Entails.refl _)) $$ [HO Hz Hw Ht0 Ht3]
  · isplitr; · iexact Hr
    isplitl [HO]; · iexact HO
    isplitl [Hz]; · iexact Hz
    isplitl [Hw]; · iexact Hw
    isplitl [Ht0]; · iexact Ht0
    iexact Ht3
  iintro ⟨HO, Hc⟩
  iapply Hk $$ [Ha Hb HO] [Hc Hz' HF] %_ %_ %_ %_ %_
  · isplitr; · iexact Hr
    isplitl [Ha]; · iexact Ha
    isplitl [Hb] <;> iassumption
  · isplitl [Hc]; · iexact Hc
    isplitl [Hz'] <;> iassumption

end

end Cert.SiluProof
-- ==== Proof.Stages.lean ====
/-
# The later steps of a group

Each remaining step of a group as one rule, and the halves and quarters of a group's rows put together.
-/
module

public import proofs.«01_k».proof.Proof.Steps

@[expose] public section

noncomputable section

namespace Cert.SiluProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Halves and quarters -/

theorem z_quarters (c : Dev nD) (g : Fin 6) (V : ℕ → ℕ → Elt F .bf16) :
    zAt c (K0 g c) (H g) V ⊢ iprop(zAt c (K1 g c) (Q g) V ∗ zAt c (K1 g (pr g 1 c)) (Q g) V) := by
  have hH : H g = Q g + Q g := by unfold H; omega
  rcases K1_cases g c with ⟨e1, e2⟩ | ⟨e1, e2⟩
  · rw [e1, e2, hH]; exact rowsAt_split (c := (c : Thread nD τ)) zM (K0 g c) (Q g) (Q g) V
  · rw [e1, e2, hH]
    iintro H
    ihave H := (rowsAt_split (c := (c : Thread nD τ)) zM (K0 g c) (Q g) (Q g) V) $$ H
    icases H with ⟨H1, H2⟩
    isplitl [H2] <;> iassumption

theorem z_join1 (c : Dev nD) (g : Fin 6) (V : ℕ → ℕ → Elt F .bf16) :
    iprop(zAt c (K1 g c) (Q g) V ∗ zAt c (K1 g (pr g 1 c)) (Q g) V) ⊢ zAt c (K0 g c) (H g) V := by
  have hH : H g = Q g + Q g := by unfold H; omega
  rcases K1_cases g c with ⟨e1, e2⟩ | ⟨e1, e2⟩
  · rw [e1, e2, hH]; exact rowsAt_join (c := (c : Thread nD τ)) zM (K0 g c) (Q g) (Q g) V
  · rw [e1, e2, hH]
    iintro ⟨H1, H2⟩
    iapply (rowsAt_join (c := (c : Thread nD τ)) zM (K0 g c) (Q g) (Q g) V)
    isplitl [H2] <;> iassumption

theorem z_join0 (c : Dev nD) (g : Fin 6) (V : ℕ → ℕ → Elt F .bf16) :
    iprop(zAt c (K0 g c) (H g) V ∗ zAt c (K0 g (pr g 0 c)) (H g) V) ⊢ zAt c (start g) (4 * Q g) V := by
  have hH : 4 * Q g = H g + H g := by unfold H; omega
  rcases K0_cases g c with ⟨e1, e2⟩ | ⟨e1, e2⟩
  · rw [e1, e2, hH]; exact rowsAt_join (c := (c : Thread nD τ)) zM (start g) (H g) (H g) V
  · rw [e1, e2, hH]
    iintro ⟨H1, H2⟩
    iapply (rowsAt_join (c := (c : Thread nD τ)) zM (start g) (H g) (H g) V)
    isplitl [H2] <;> iassumption

/-- The wait for a send of one's own can be made at any time. -/
theorem lvI_send (g : Fin 6) (k : Fin 3) : lvI (g, ⟨k.val, by omega⟩) = 0 := by revert g k; decide

theorem lvI_ag (g : Fin 6) (k : Fin 2) : lvI (g, ⟨6 + k.val, by omega⟩) = 0 := by revert g k; decide

theorem K1_hi (g : Fin 6) (c : Dev nD) : K1 g c + Q g ≤ 2048 := by
  have := K1_mem g c; have := K0_hi g c; omega

section

variable (aV bV : Dev nD → ℕ → ℕ → Elt F .f32) (K : Dev nD × Option I → ℕ) {α : Type}

/-- The product of the half a device keeps. -/
theorem step0b (c : Dev nD) (g : Fin 6) (n N : ℕ) (hn : n = H g)
    {offa offz : Fin 2 → ℕ} (ha : offa = ![K0 g c, 0]) (hz : offz = ![K0 g c, 0])
    {pf : Vn F n 1024 .f32 → Vn F 1024 2048 .bf16 → Vn F n 2048 .bf16} (hpf : ∀ v w, pf v w = dotG (F := F) n v w)
    {inba hla} {inbb hlb : ∀ _ : Vn F n 1024 .f32, _} {inbz hlz : ∀ (_ : Vn F n 1024 .f32) (_ : Vn F 1024 2048 .bf16), _}
    {inbz' hx hm : ∀ (_ : Vn F n 1024 .f32) (_ : Vn F 1024 2048 .bf16) (_ : Vn F n 2048 .bf16), _}
    {k : Vn F n 1024 .f32 → Vn F 1024 2048 .bf16 → Vn F n 2048 .bf16 → PUnit → Prog (TpuEff nD τ sig (Elt F) Λ₀ .tc) α} {Qp : α → sProp 𝕄} :
    Com aV bV K c N ⊢ iprop(S0b c g -∗ (Com aV bV K c N -∗ S1 aV bV c g -∗ ∀ v w u e, WP c (k v w u e) Qp) -∗ WP c
      (.op (.load aM (Rect.unit (s := Sh 2048 1024) offa ![n, 1024] inba).toLoadRect hla) fun v =>
        .op (.load bbM (Rect.unit (s := Sh 1024 2048) ![0, 0] ![1024, 2048] (inbb v)).toLoadRect (hlb v)) fun w =>
        .op (.load zM (Rect.unit (s := Sh 2048 2048) offz ![n, 2048] (inbz v w)).toLoadRect (hlz v w)) fun u =>
        .op (.store zM (Rect.unit (s := Sh 2048 2048) offz ![n, 2048] (inbz' v w u)) (pf v w) Finset.univ (hx v w u) (hm v w u)) fun e =>
        k v w u e) Qp) := by
  subst hn ha hz
  unfold Com S0b S1
  iintro ⟨#Hr, Ha, Hb, HO⟩ ⟨Hc, Hz, HF⟩ Hk
  have hlo := K0_hi g c
  iapply (rows_load Variants.none (c := (c : Thread nD τ)) aM (lo' := K0 g c) (n' := H g) rfl rfl rfl rfl (Nat.zero_le _)
    (by omega)) $$ Ha
  iintro Ha
  iapply (rows_load Variants.none (c := (c : Thread nD τ)) bbM (lo' := 0) (n' := 1024) rfl rfl rfl rfl le_rfl le_rfl) $$ Hb
  iintro Hb
  iapply (rows_load_any Variants.none (c := (c : Thread nD τ)) zM (lo' := K0 g c) (n' := H g) rfl rfl rfl rfl le_rfl le_rfl) $$ Hz
  iintro %u Hz
  rw [hpf]
  iapply (rows_store Variants.none (c := (c : Thread nD τ)) zM (lo := K0 g c) (n := H g) (V := V0 aV bV c g) rfl rfl rfl rfl
    (dotG_rows aV bV c g (K0 g c) (K0_or g _))) $$ Hz
  iintro Hz
  iapply Hk $$ [Ha Hb HO] [Hc Hz HF] %_ %_ %_ %_
  · isplitr; · iexact Hr
    isplitl [Ha]; · iexact Ha
    isplitl [Hb] <;> iassumption
  · isplitl [Hc]; · iexact Hc
    isplitl [Hz] <;> iassumption

/-- The first exchange: the partner's half added, and the transfer of a quarter. -/
theorem step1 (c : Dev nD) (g : Fin 6) (n m N N' : ℕ) (hn : n = H g) (hm' : m = Q g) (hN : N = 9 + g.val) (hN' : N' = N + 1)
    (p : Dev nD) (hp : p = pr g 1 c) {offw offz offs : Fin 2 → ℕ}
    (hw : offw = ![K0 g (pr g 0 c), 0]) (hz : offz = ![K0 g c, 0]) (hs : offs = ![K1 g (pr g 1 c), 0])
    {pf : Vn F n 2048 .bf16 → Vn F n 2048 .bf16 → Vn F n 2048 .bf16}
    (hpf : ∀ v w x, pf v w x = FloatOps.addf (F := F) (φ := .bf16) (v x) (w x))
    {s1 s2 sS sR : DmaSem sig} (h1 : s1 = semI (g, 0)) (h2 : s2 = semI (g, 3)) (hsS : sS = semI (g, 1)) (hsR : sR = semI (g, 4))
    {spa spb : Space} {sa sb : Shape} {ea eb : EltTy} {src1 : Memref sig .tc spa sa ea} {src2 : PUnit → Memref sig .tc spb sb eb}
    {i1 j1 x1 y1} {i2 j2 x2 y2 : ∀ _ : PUnit, _} {i3 l3 : ∀ _ _ : PUnit, _}
    {i4 l4 : ∀ (_ _ : PUnit) (_ : Vn F n 2048 .bf16), _} {i5 l5 : ∀ (_ _ : PUnit) (_ _ : Vn F n 2048 .bf16), _}
    {i6 x6 m6 : ∀ (_ _ : PUnit) (_ _ _ : Vn F n 2048 .bf16), _}
    {i7 i8 r7 r8 sc7 sr7 ds7 : ∀ (_ _ : PUnit) (_ _ _ : Vn F n 2048 .bf16) (_ : PUnit), _}
    {hsem : ∀ (a b : PUnit) (v w u : Vn F n 2048 .bf16) (e : PUnit), DmaTarget.Typed .vmem (.dma sR) (.remote (p : Thread nD τ)
      ((rM g).slice (Rect.unit (s := Sh (4 * Q g) 2048) ![n, 0] ![m, 2048] (i8 a b v w u e)) (r8 a b v w u e)) (.dma sS) (sc7 a b v w u e))}
    {k : PUnit → PUnit → Vn F n 2048 .bf16 → Vn F n 2048 .bf16 → Vn F n 2048 .bf16 → PUnit → PUnit →
      Prog (TpuEff nD τ sig (Elt F) Λ₀ .tc) α} {Qp : α → sProp 𝕄} :
    Com aV bV K c N ⊢ iprop(S1 aV bV c g -∗ (Com aV bV K c N' -∗ S2 aV bV c g -∗ ∀ a b v w u e e', WP c (k a b v w u e e') Qp) -∗ WP c
      (.op (.waitDma2 s1 src1 (zM.slice (Rect.unit (s := Sh 2048 2048) offw ![n, 2048] i1) j1) x1 y1) fun a =>
        .op (.waitDma2 s2 (src2 a) ((rM g).slice (Rect.unit (s := Sh (4 * Q g) 2048) ![0, 0] ![n, 2048] (i2 a)) (j2 a)) (x2 a) (y2 a)) fun b =>
        .op (.load zM (Rect.unit (s := Sh 2048 2048) offz ![n, 2048] (i3 a b)).toLoadRect (l3 a b)) fun v =>
        .op (.load (rM g) (Rect.unit (s := Sh (4 * Q g) 2048) ![0, 0] ![n, 2048] (i4 a b v)).toLoadRect (l4 a b v)) fun w =>
        .op (.load zM (Rect.unit (s := Sh 2048 2048) offz ![n, 2048] (i5 a b v w)).toLoadRect (l5 a b v w)) fun u =>
        .op (.store zM (Rect.unit (s := Sh 2048 2048) offz ![n, 2048] (i6 a b v w u)) (pf v w) Finset.univ (x6 a b v w u) (m6 a b v w u)) fun e =>
        .op (.enqueueDma (zM.slice (Rect.unit (s := Sh 2048 2048) offs ![m, 2048] (i7 a b v w u e)) (r7 a b v w u e))
          (.remote (p : Thread nD τ) ((rM g).slice (Rect.unit (s := Sh (4 * Q g) 2048) ![n, 0] ![m, 2048] (i8 a b v w u e)) (r8 a b v w u e))
            (.dma sS) (sc7 a b v w u e)) (.dma sR) (sr7 a b v w u e) (ds7 a b v w u e) (hsem a b v w u e)) fun e' => k a b v w u e e') Qp) := by
  subst hn hm' hN hN' hw hz hs
  unfold Com S1 F1 S2 D1 cd ap tk zz win
  iintro ⟨#Hr, Ha, Hb, HO⟩ ⟨Hc0, Hz, Ha0, Ha3, Hc3, Ht1, Ht4, Hw, HF⟩ Hk
  iapply (step_wait aV bV K c (g, 0) h1 (credit_z (H g) _ _ _) (fun s h => lt_of_le_of_lt (lvI_send g 0).le (lt_of_le_of_lt (Nat.zero_le 2) (lv_1 g s h)))) $$ [HO Hc0 Ha0]
  · isplitr; · iexact Hr
    isplitl [HO]; · iexact HO
    isplitl [Hc0] <;> iassumption
  iintro ⟨HO, -, Hz0⟩
  iapply (step_wait aV bV K c (g, 3) h2 (credit_r g (H g) _ _ _) (fun s h => lv_1 g s h)) $$ [HO Hc3 Ha3]
  · isplitr; · iexact Hr
    isplitl [HO]; · iexact HO
    isplitl [Hc3] <;> iassumption
  iintro ⟨HO, Hp, Hz3⟩
  ihave Hp := (show pay aV bV c (g, 3) ⊢ iprop(rowsAt (c : Thread nD τ) (rM g) 0 (H g) (fun i j => V0 aV bV (pr g 0 c) g (K0 g c + i) j)
      ∗ rowsAny (pr g 0 c : Thread nD τ) zM (K0 g c) (H g)) from Entails.refl _) $$ Hp
  icases Hp with ⟨HR, Hzp⟩
  iapply (rows_load Variants.none (c := (c : Thread nD τ)) zM (lo' := K0 g c) (n' := H g) rfl rfl rfl rfl le_rfl le_rfl) $$ Hz
  iintro Hz
  iapply (rows_load Variants.none (c := (c : Thread nD τ)) (rM g) (lo' := 0) (n' := H g) rfl rfl rfl rfl le_rfl le_rfl) $$ HR
  iintro HR
  iapply (rows_load Variants.none (c := (c : Thread nD τ)) zM (lo' := K0 g c) (n' := H g) rfl rfl rfl rfl le_rfl le_rfl) $$ Hz
  iintro Hz
  ihave Hz := (rowsAt_any (c := (c : Thread nD τ)) zM (K0 g c) (H g) (V0 aV bV c g)) $$ Hz
  iapply (rows_store Variants.none (c := (c : Thread nD τ)) zM (lo := K0 g c) (n := H g) (V := V1 aV bV c g) rfl rfl rfl rfl
    (fun x => (hpf _ _ x).trans (by
      show FloatOps.addf (F := F) (φ := .bf16) (V0 aV bV c g (K0 g c + (x 0).val) (x 1).val) (V0 aV bV (pr g 0 c) g (K0 g c + (0 + (x 0).val)) (x 1).val) = _
      rw [Nat.zero_add]; rfl))) $$ Hz
  iintro Hz
  ihave Hz := (z_quarters c g (V1 aV bV c g)) $$ Hz
  icases Hz with ⟨Hz, Hs⟩
  rw [tl_1]
  iapply (step_send_over aV bV K c (g, 1) (g, 4) p hp zM (rM g) (lo := K1 g (pr g 1 c)) (lo' := H g) (nn := Q g) (V := V1 aV bV c g)
    (V' := fun i j => V1 aV bV c g (K1 g (pr g 1 c) + (i - H g)) j) rfl rfl rfl rfl rfl rfl
    (fun i j _ => by rw [Nat.add_sub_cancel_left]) hsS hsR (credit_r g _ _ _ _) rfl (Entails.refl _)
    (by
      show _ ⊢ iprop(rowsAt (pr g 1 c : Thread nD τ) (rM g) (H g) (Q g) (fun i j => V1 aV bV (pr g 1 (pr g 1 c)) g (K1 g (pr g 1 c) + (i - H g)) j)
        ∗ rowsAny (pr g 1 (pr g 1 c) : Thread nD τ) zM (K1 g (pr g 1 c)) (Q g))
      rw [show pr g 1 (pr g 1 c) = c from par_par _ _]
      exact Entails.refl _)) $$ [HO Hs Hw Ht1 Ht4]
  · isplitr; · iexact Hr
    isplitl [HO]; · iexact HO
    isplitl [Hs]; · iexact Hs
    isplitl [Hw]; · iexact Hw
    isplitl [Ht1]; · iexact Ht1
    iexact Ht4
  iintro ⟨HO, Hc⟩
  ihave HR := (rowsAt_any (c := (c : Thread nD τ)) (rM g) 0 (H g) _) $$ HR
  iapply Hk $$ [Ha Hb HO] [Hc Hz Hzp HF Hz0 Hz3 HR] %_ %_ %_ %_ %_ %_ %_
  · isplitr; · iexact Hr
    isplitl [Ha]; · iexact Ha
    isplitl [Hb] <;> iassumption
  · isplitl [Hc]; · iexact Hc
    isplitl [Hz]; · iexact Hz
    isplitl [Hzp]; · iexact Hzp
    isplitl [HF]; · iexact HF
    isplitl [Hz0]; · iexact Hz0
    isplitl [Hz3]; · iexact Hz3
    iexact HR

/-- The second exchange: the partner's quarter added, and its transfer to the third partner. -/
theorem step2 (c : Dev nD) (g : Fin 6) (m h t N N' : ℕ) (hm' : m = Q g) (hh : h = H g) (ht : t = 3 * Q g)
    (hN : N = 15 + g.val) (hN' : N' = N + 1) (p : Dev nD) (hp : p = pr g 2 c) {offw offz offs : Fin 2 → ℕ}
    (hz : offz = ![K1 g c, 0]) (hs : offs = ![K1 g c, 0])
    {pf : Vn F m 2048 .bf16 → Vn F m 2048 .bf16 → Vn F m 2048 .bf16}
    (hpf : ∀ v w x, pf v w x = FloatOps.addf (F := F) (φ := .bf16) (v x) (w x))
    {s1 s2 sS sR : DmaSem sig} (h1 : s1 = semI (g, 1)) (h2 : s2 = semI (g, 4)) (hsS : sS = semI (g, 2)) (hsR : sR = semI (g, 5))
    {spa spb : Space} {sa sb : Shape} {ea eb : EltTy} {src1 : Memref sig .tc spa sa ea} {src2 : PUnit → Memref sig .tc spb sb eb}
    {i1 j1 x1 y1} {i2 j2 x2 y2 : ∀ _ : PUnit, _} {i3 l3 : ∀ _ _ : PUnit, _}
    {i4 l4 : ∀ (_ _ : PUnit) (_ : Vn F m 2048 .bf16), _} {i5 l5 : ∀ (_ _ : PUnit) (_ _ : Vn F m 2048 .bf16), _}
    {i6 x6 m6 : ∀ (_ _ : PUnit) (_ _ _ : Vn F m 2048 .bf16), _}
    {i7 i8 r7 r8 sc7 sr7 ds7 : ∀ (_ _ : PUnit) (_ _ _ : Vn F m 2048 .bf16) (_ : PUnit), _}
    {hsem : ∀ (a b : PUnit) (v w u : Vn F m 2048 .bf16) (e : PUnit), DmaTarget.Typed .vmem (.dma sR) (.remote (p : Thread nD τ)
      ((rM g).slice (Rect.unit (s := Sh (4 * Q g) 2048) ![t, 0] ![m, 2048] (i8 a b v w u e)) (r8 a b v w u e)) (.dma sS) (sc7 a b v w u e))}
    {k : PUnit → PUnit → Vn F m 2048 .bf16 → Vn F m 2048 .bf16 → Vn F m 2048 .bf16 → PUnit → PUnit →
      Prog (TpuEff nD τ sig (Elt F) Λ₀ .tc) α} {Qp : α → sProp 𝕄} :
    Com aV bV K c N ⊢ iprop(S2 aV bV c g -∗ (Com aV bV K c N' -∗ S3 c g -∗ ∀ a b v w u e e', WP c (k a b v w u e e') Qp) -∗ WP c
      (.op (.waitDma2 s1 src1 (zM.slice (Rect.unit (s := Sh 2048 2048) offw ![m, 2048] i1) j1) x1 y1) fun a =>
        .op (.waitDma2 s2 (src2 a) ((rM g).slice (Rect.unit (s := Sh (4 * Q g) 2048) ![h, 0] ![m, 2048] (i2 a)) (j2 a)) (x2 a) (y2 a)) fun b =>
        .op (.load zM (Rect.unit (s := Sh 2048 2048) offz ![m, 2048] (i3 a b)).toLoadRect (l3 a b)) fun v =>
        .op (.load (rM g) (Rect.unit (s := Sh (4 * Q g) 2048) ![h, 0] ![m, 2048] (i4 a b v)).toLoadRect (l4 a b v)) fun w =>
        .op (.load zM (Rect.unit (s := Sh 2048 2048) offz ![m, 2048] (i5 a b v w)).toLoadRect (l5 a b v w)) fun u =>
        .op (.store zM (Rect.unit (s := Sh 2048 2048) offz ![m, 2048] (i6 a b v w u)) (pf v w) Finset.univ (x6 a b v w u) (m6 a b v w u)) fun e =>
        .op (.enqueueDma (zM.slice (Rect.unit (s := Sh 2048 2048) offs ![m, 2048] (i7 a b v w u e)) (r7 a b v w u e))
          (.remote (p : Thread nD τ) ((rM g).slice (Rect.unit (s := Sh (4 * Q g) 2048) ![t, 0] ![m, 2048] (i8 a b v w u e)) (r8 a b v w u e))
            (.dma sS) (sc7 a b v w u e)) (.dma sR) (sr7 a b v w u e) (ds7 a b v w u e) (hsem a b v w u e)) fun e' => k a b v w u e e') Qp) := by
  subst hm' hh ht hN hN' hz hs
  unfold Com S2 F2 S3 D2 cd ap tk zz win
  iintro ⟨#Hr, Ha, Hb, HO⟩ ⟨Hc0, Hz, Hzp0, ⟨Ha1, Ha4, Hc4, Ht2, Ht5, Hw, HF⟩, HD⟩ Hk
  iapply (step_wait aV bV K c (g, 1) h1 (credit_z (Q g) _ _ _) (fun s h => lt_of_le_of_lt (lvI_send g 1).le (lt_of_le_of_lt (Nat.zero_le 3) (lv_2 g s h)))) $$ [HO Hc0 Ha1]
  · isplitr; · iexact Hr
    isplitl [HO]; · iexact HO
    isplitl [Hc0] <;> iassumption
  iintro ⟨HO, -, Hz1⟩
  iapply (step_wait aV bV K c (g, 4) h2 (credit_r g (Q g) _ _ _) (fun s h => lv_2 g s h)) $$ [HO Hc4 Ha4]
  · isplitr; · iexact Hr
    isplitl [HO]; · iexact HO
    isplitl [Hc4] <;> iassumption
  iintro ⟨HO, Hp, Hz4⟩
  ihave Hp := (show pay aV bV c (g, 4) ⊢ iprop(rowsAt (c : Thread nD τ) (rM g) (H g) (Q g) (fun i j => V1 aV bV (pr g 1 c) g (K1 g c + (i - H g)) j)
      ∗ rowsAny (pr g 1 c : Thread nD τ) zM (K1 g c) (Q g)) from Entails.refl _) $$ Hp
  icases Hp with ⟨HR, Hzp⟩
  iapply (rows_load Variants.none (c := (c : Thread nD τ)) zM (lo' := K1 g c) (n' := Q g) rfl rfl rfl rfl le_rfl le_rfl) $$ Hz
  iintro Hz
  iapply (rows_load Variants.none (c := (c : Thread nD τ)) (rM g) (lo' := H g) (n' := Q g) rfl rfl rfl rfl le_rfl le_rfl) $$ HR
  iintro HR
  iapply (rows_load Variants.none (c := (c : Thread nD τ)) zM (lo' := K1 g c) (n' := Q g) rfl rfl rfl rfl le_rfl le_rfl) $$ Hz
  iintro Hz
  ihave Hz := (rowsAt_any (c := (c : Thread nD τ)) zM (K1 g c) (Q g) (V1 aV bV c g)) $$ Hz
  iapply (rows_store Variants.none (c := (c : Thread nD τ)) zM (lo := K1 g c) (n := Q g) (V := V2 aV bV c g) rfl rfl rfl rfl
    (fun x => (hpf _ _ x).trans (by
      show FloatOps.addf (F := F) (φ := .bf16) (V1 aV bV c g (K1 g c + (x 0).val) (x 1).val)
        (V1 aV bV (pr g 1 c) g (K1 g c + (H g + (x 0).val - H g)) (x 1).val) = _
      rw [Nat.add_sub_cancel_left]; rfl))) $$ Hz
  iintro Hz
  rw [tl_2]
  iapply (step_send aV bV K c (g, 2) (g, 5) p hp zM (rM g) (lo := K1 g c) (lo' := 3 * Q g) (nn := Q g) (V := V2 aV bV c g)
    (V' := fun i j => V2 aV bV c g (K1 g c + (i - 3 * Q g)) j) rfl rfl rfl rfl rfl rfl
    (fun i j _ => by rw [Nat.add_sub_cancel_left]) hsS hsR (credit_r g _ _ _ _) rfl (Entails.refl _)
    (by
      show _ ⊢ rowsAt (pr g 2 c : Thread nD τ) (rM g) (3 * Q g) (Q g) (fun i j => V2 aV bV (pr g 2 (pr g 2 c)) g (K1 g (pr g 2 c) + (i - 3 * Q g)) j)
      rw [show pr g 2 (pr g 2 c) = c from par_par _ _, K1_par2]
      exact Entails.refl _)) $$ [HO Hz Hw Ht2 Ht5]
  · isplitr; · iexact Hr
    isplitl [HO]; · iexact HO
    isplitl [Hz]; · iexact Hz
    isplitl [Hw]; · iexact Hw
    isplitl [Ht2]; · iexact Ht2
    iexact Ht5
  iintro ⟨HO, Hc⟩
  ihave HR := (rowsAt_any (c := (c : Thread nD τ)) (rM g) (H g) (Q g) _) $$ HR
  iapply Hk $$ [Ha Hb HO] [Hc Hzp Hzp0 HF HD Hz1 Hz4 HR] %_ %_ %_ %_ %_ %_ %_
  · isplitr; · iexact Hr
    isplitl [Ha]; · iexact Ha
    isplitl [Hb] <;> iassumption
  · isplitl [Hc]; · iexact Hc
    isplitl [Hzp]; · iexact Hzp
    isplitl [Hzp0]; · iexact Hzp0
    isplitl [HF]; · iexact HF
    isplitl [Hz1]; · iexact Hz1
    isplitl [Hz4]; · iexact Hz4
    isplitl [HR]; · iexact HR
    iexact HD

/-- The third exchange: the last addition, the activation, and the transfer of the finished quarter. -/
theorem step3 (c : Dev nD) (g : Fin 6) (m t N N' : ℕ) (hm' : m = Q g) (ht : t = 3 * Q g)
    (hN : N = 21 + g.val) (hN' : N' = N + 1) (p : Dev nD) (hp : p = pr g 1 c) {offw offz offs : Fin 2 → ℕ}
    (hz : offz = ![K1 g c, 0]) (hs : offs = ![K1 g c, 0])
    {pf : Vn F m 2048 .bf16 → Vn F m 2048 .bf16 → Vn F m 2048 .bf16}
    (hpf : ∀ v w x, pf v w x = FloatOps.truncf (F := F) (φ := .f32) .bf16 bitsLt_bf16_f32 (siluS (F := F) (FloatOps.addf
      (FloatOps.extf (F := F) (φ := .bf16) .f32 bitsLt_bf16_f32 (v x)) (FloatOps.extf (F := F) (φ := .bf16) .f32 bitsLt_bf16_f32 (w x)))))
    {s1 s2 sS sR : DmaSem sig} (h1 : s1 = semI (g, 2)) (h2 : s2 = semI (g, 5)) (hsS : sS = semI (g, 6)) (hsR : sR = semI (g, 8))
    {spa spb : Space} {sa sb : Shape} {ea eb : EltTy} {src1 : Memref sig .tc spa sa ea} {src2 : PUnit → Memref sig .tc spb sb eb}
    {i1 j1 x1 y1} {i2 j2 x2 y2 : ∀ _ : PUnit, _} {i3 l3 : ∀ _ _ : PUnit, _}
    {i4 l4 : ∀ (_ _ : PUnit) (_ : Vn F m 2048 .bf16), _} {i5 l5 : ∀ (_ _ : PUnit) (_ _ : Vn F m 2048 .bf16), _}
    {i6 x6 m6 : ∀ (_ _ : PUnit) (_ _ _ : Vn F m 2048 .bf16), _}
    {i7 i8 r7 r8 sc7 sr7 ds7 : ∀ (_ _ : PUnit) (_ _ _ : Vn F m 2048 .bf16) (_ : PUnit), _}
    {hsem : ∀ (a b : PUnit) (v w u : Vn F m 2048 .bf16) (e : PUnit), DmaTarget.Typed .vmem (.dma sR) (.remote (p : Thread nD τ)
      (zM.slice (Rect.unit (s := Sh 2048 2048) offs ![m, 2048] (i8 a b v w u e)) (r8 a b v w u e)) (.dma sS) (sc7 a b v w u e))}
    {k : PUnit → PUnit → Vn F m 2048 .bf16 → Vn F m 2048 .bf16 → Vn F m 2048 .bf16 → PUnit → PUnit →
      Prog (TpuEff nD τ sig (Elt F) Λ₀ .tc) α} {Qp : α → sProp 𝕄} :
    Com aV bV K c N ⊢ iprop(S3 c g -∗ (Com aV bV K c N' -∗ S4 c g -∗ ∀ a b v w u e e', WP c (k a b v w u e e') Qp) -∗ WP c
      (.op (.waitDma2 s1 src1 (zM.slice (Rect.unit (s := Sh 2048 2048) offw ![m, 2048] i1) j1) x1 y1) fun a =>
        .op (.waitDma2 s2 (src2 a) ((rM g).slice (Rect.unit (s := Sh (4 * Q g) 2048) ![t, 0] ![m, 2048] (i2 a)) (j2 a)) (x2 a) (y2 a)) fun b =>
        .op (.load zM (Rect.unit (s := Sh 2048 2048) offz ![m, 2048] (i3 a b)).toLoadRect (l3 a b)) fun v =>
        .op (.load (rM g) (Rect.unit (s := Sh (4 * Q g) 2048) ![t, 0] ![m, 2048] (i4 a b v)).toLoadRect (l4 a b v)) fun w =>
        .op (.load zM (Rect.unit (s := Sh 2048 2048) offz ![m, 2048] (i5 a b v w)).toLoadRect (l5 a b v w)) fun u =>
        .op (.store zM (Rect.unit (s := Sh 2048 2048) offz ![m, 2048] (i6 a b v w u)) (pf v w) Finset.univ (x6 a b v w u) (m6 a b v w u)) fun e =>
        .op (.enqueueDma (zM.slice (Rect.unit (s := Sh 2048 2048) offs ![m, 2048] (i7 a b v w u e)) (r7 a b v w u e))
          (.remote (p : Thread nD τ) (zM.slice (Rect.unit (s := Sh 2048 2048) offs ![m, 2048] (i8 a b v w u e)) (r8 a b v w u e))
            (.dma sS) (sc7 a b v w u e)) (.dma sR) (sr7 a b v w u e) (ds7 a b v w u e) (hsem a b v w u e)) fun e' => k a b v w u e e') Qp) := by
  subst hm' ht hN hN' hz hs
  unfold Com S3 F3 S4 D3 cd ap tk zz win
  iintro ⟨#Hr, Ha, Hb, HO⟩ ⟨Hc0, Hzp, Hzp0, ⟨Ha2, Ha5, Hc5, Ht6, Ht8, HF⟩, HD⟩ Hk
  iapply (step_wait aV bV K c (g, 2) h1 (credit_z (Q g) _ _ _) (fun s h => lt_of_le_of_lt (lvI_send g 2).le (lt_of_le_of_lt (Nat.zero_le 4) (lv_3 g s h)))) $$ [HO Hc0 Ha2]
  · isplitr; · iexact Hr
    isplitl [HO]; · iexact HO
    isplitl [Hc0] <;> iassumption
  iintro ⟨HO, Hz, Hz2⟩
  ihave Hz := (show pay aV bV c (g, 2) ⊢ rowsAt (c : Thread nD τ) zM (K1 g c) (Q g) (V2 aV bV c g) from Entails.refl _) $$ Hz
  iapply (step_wait aV bV K c (g, 5) h2 (credit_r g (Q g) _ _ _) (fun s h => lv_3 g s h)) $$ [HO Hc5 Ha5]
  · isplitr; · iexact Hr
    isplitl [HO]; · iexact HO
    isplitl [Hc5] <;> iassumption
  iintro ⟨HO, HR, Hz5⟩
  ihave HR := (show pay aV bV c (g, 5) ⊢ rowsAt (c : Thread nD τ) (rM g) (3 * Q g) (Q g) (fun i j => V2 aV bV (pr g 2 c) g (K1 g c + (i - 3 * Q g)) j)
      from Entails.refl _) $$ HR
  iapply (rows_load Variants.none (c := (c : Thread nD τ)) zM (lo' := K1 g c) (n' := Q g) rfl rfl rfl rfl le_rfl le_rfl) $$ Hz
  iintro Hz
  iapply (rows_load Variants.none (c := (c : Thread nD τ)) (rM g) (lo' := 3 * Q g) (n' := Q g) rfl rfl rfl rfl le_rfl le_rfl) $$ HR
  iintro HR
  iapply (rows_load Variants.none (c := (c : Thread nD τ)) zM (lo' := K1 g c) (n' := Q g) rfl rfl rfl rfl le_rfl le_rfl) $$ Hz
  iintro Hz
  ihave Hz := (rowsAt_any (c := (c : Thread nD τ)) zM (K1 g c) (Q g) (V2 aV bV c g)) $$ Hz
  iapply (rows_store Variants.none (c := (c : Thread nD τ)) zM (lo := K1 g c) (n := Q g) (V := Zf aV bV c g) rfl rfl rfl rfl
    (fun x => (hpf _ _ x).trans (by
      show FloatOps.truncf (F := F) (φ := .f32) .bf16 bitsLt_bf16_f32 (siluS (F := F) (FloatOps.addf
        (FloatOps.extf (F := F) (φ := .bf16) .f32 bitsLt_bf16_f32 (V2 aV bV c g (K1 g c + (x 0).val) (x 1).val))
        (FloatOps.extf (F := F) (φ := .bf16) .f32 bitsLt_bf16_f32
          (V2 aV bV (pr g 2 c) g (K1 g c + (3 * Q g + (x 0).val - 3 * Q g)) (x 1).val)))) = _
      rw [Nat.add_sub_cancel_left]
      exact (Zf_own aV bV c g _ _ (Nat.le_add_right _ _) (Nat.add_lt_add_left (x 0).isLt _)).symm))) $$ Hz
  iintro Hz
  rw [tl_3]
  iapply (step_send aV bV K c (g, 6) (g, 8) p hp zM zM (lo := K1 g c) (lo' := K1 g c) (nn := Q g) (V := Zf aV bV c g)
    (V' := Zf aV bV c g) rfl rfl rfl rfl rfl rfl
    (fun i j _ => rfl) hsS hsR (credit_z _ _ _ _) rfl (Entails.refl _)
    (by
      show _ ⊢ rowsAt (pr g 1 c : Thread nD τ) zM (K1 g (pr g 1 (pr g 1 c))) (Q g) (Zf aV bV (pr g 1 c) g)
      rw [show pr g 1 (pr g 1 c) = c from par_par _ _, Zf_par1]
      exact Entails.refl _)) $$ [HO Hz Hzp Ht6 Ht8]
  · isplitr; · iexact Hr
    isplitl [HO]; · iexact HO
    isplitl [Hz]; · iexact Hz
    isplitl [Hzp]; · iexact Hzp
    isplitl [Ht6]; · iexact Ht6
    iexact Ht8
  iintro ⟨HO, Hc⟩
  ihave HR := (rowsAt_any (c := (c : Thread nD τ)) (rM g) (3 * Q g) (Q g) _) $$ HR
  iapply Hk $$ [Ha Hb HO] [Hc Hzp0 HF HD Hz2 Hz5 HR] %_ %_ %_ %_ %_ %_ %_
  · isplitr; · iexact Hr
    isplitl [Ha]; · iexact Ha
    isplitl [Hb] <;> iassumption
  · isplitl [Hc]; · iexact Hc
    isplitl [Hzp0]; · iexact Hzp0
    isplitl [HF]; · iexact HF
    isplitl [Hz2]; · iexact Hz2
    isplitl [Hz5]; · iexact Hz5
    isplitl [HR]; · iexact HR
    iexact HD

/-- The quarters gathered, and the transfer of the gathered half. -/
theorem step4 (c : Dev nD) (g : Fin 6) (m n N N' : ℕ) (hm' : m = Q g) (hn : n = H g)
    (hN : N = 27 + g.val) (hN' : N' = N + 1) (p : Dev nD) (hp : p = pr g 0 c) {offw offw' offs : Fin 2 → ℕ}
    (hs : offs = ![K0 g c, 0])
    {s1 s2 sS sR : DmaSem sig} (h1 : s1 = semI (g, 6)) (h2 : s2 = semI (g, 8)) (hsS : sS = semI (g, 7)) (hsR : sR = semI (g, 9))
    {spa spb : Space} {sa sb : Shape} {ea eb : EltTy} {src1 : Memref sig .tc spa sa ea} {src2 : PUnit → Memref sig .tc spb sb eb}
    {i1 j1 x1 y1} {i2 j2 x2 y2 : ∀ _ : PUnit, _} {i7 i8 r7 r8 sc7 sr7 ds7 : ∀ (_ _ : PUnit), _}
    {hsem : ∀ (a b : PUnit), DmaTarget.Typed .vmem (.dma sR) (.remote (p : Thread nD τ)
      (zM.slice (Rect.unit (s := Sh 2048 2048) offs ![n, 2048] (i8 a b)) (r8 a b)) (.dma sS) (sc7 a b))}
    {k : PUnit → PUnit → PUnit → Prog (TpuEff nD τ sig (Elt F) Λ₀ .tc) α} {Qp : α → sProp 𝕄} :
    Com aV bV K c N ⊢ iprop(S4 c g -∗ (Com aV bV K c N' -∗ S5 c g -∗ ∀ a b e', WP c (k a b e') Qp) -∗ WP c
      (.op (.waitDma2 s1 src1 (zM.slice (Rect.unit (s := Sh 2048 2048) offw ![m, 2048] i1) j1) x1 y1) fun a =>
        .op (.waitDma2 s2 (src2 a) (zM.slice (Rect.unit (s := Sh 2048 2048) offw' ![m, 2048] (i2 a)) (j2 a)) (x2 a) (y2 a)) fun b =>
        .op (.enqueueDma (zM.slice (Rect.unit (s := Sh 2048 2048) offs ![n, 2048] (i7 a b)) (r7 a b))
          (.remote (p : Thread nD τ) (zM.slice (Rect.unit (s := Sh 2048 2048) offs ![n, 2048] (i8 a b)) (r8 a b))
            (.dma sS) (sc7 a b)) (.dma sR) (sr7 a b) (ds7 a b) (hsem a b)) fun e' => k a b e') Qp) := by
  subst hm' hn hN hN' hs
  unfold Com S4 F4 S5 D4 cd ap tk zz
  iintro ⟨#Hr, Ha, Hb, HO⟩ ⟨Hc0, Hzp0, ⟨Ha6, Ha8, Hc8, Ht7, Ht9, HF⟩, HD⟩ Hk
  iapply (step_wait aV bV K c (g, 6) h1 (credit_z (Q g) _ _ _) (fun s h => lt_of_le_of_lt (lvI_ag g 0).le (lt_of_le_of_lt (Nat.zero_le 5) (lv_4 g s h)))) $$ [HO Hc0 Ha6]
  · isplitr; · iexact Hr
    isplitl [HO]; · iexact HO
    isplitl [Hc0] <;> iassumption
  iintro ⟨HO, Hz, Hz6⟩
  iapply (step_wait aV bV K c (g, 8) h2 (credit_z (Q g) _ _ _) (fun s h => lv_4 g s h)) $$ [HO Hc8 Ha8]
  · isplitr; · iexact Hr
    isplitl [HO]; · iexact HO
    isplitl [Hc8] <;> iassumption
  iintro ⟨HO, Hz', Hz8⟩
  ihave Hz := (show iprop(pay aV bV c (g, 6) ∗ pay aV bV c (g, 8)) ⊢ zAt c (K0 g c) (H g) (Zf aV bV c g) from z_join1 c g _) $$ [Hz Hz']
  · isplitl [Hz] <;> iassumption
  rw [tl_4]
  iapply (step_send aV bV K c (g, 7) (g, 9) p hp zM zM (lo := K0 g c) (lo' := K0 g c) (nn := H g) (V := Zf aV bV c g)
    (V' := Zf aV bV c g) rfl rfl rfl rfl rfl rfl
    (fun i j _ => rfl) hsS hsR (credit_z _ _ _ _) rfl (Entails.refl _)
    (by
      show _ ⊢ rowsAt (pr g 0 c : Thread nD τ) zM (K0 g (pr g 0 (pr g 0 c))) (H g) (Zf aV bV (pr g 0 c) g)
      rw [show pr g 0 (pr g 0 c) = c from par_par _ _, Zf_par0]
      exact Entails.refl _)) $$ [HO Hz Hzp0 Ht7 Ht9]
  · isplitr; · iexact Hr
    isplitl [HO]; · iexact HO
    isplitl [Hz]; · iexact Hz
    isplitl [Hzp0]; · iexact Hzp0
    isplitl [Ht7]; · iexact Ht7
    iexact Ht9
  iintro ⟨HO, Hc⟩
  iapply Hk $$ [Ha Hb HO] [Hc HF HD Hz6 Hz8] %_ %_ %_
  · isplitr; · iexact Hr
    isplitl [Ha]; · iexact Ha
    isplitl [Hb] <;> iassumption
  · isplitl [Hc]; · iexact Hc
    isplitl [HF]; · iexact HF
    isplitl [Hz6]; · iexact Hz6
    isplitl [Hz8] <;> iassumption

/-- The halves gathered, and the copy of a group's finished rows to the result. -/
theorem step5 (c : Dev nD) (g : Fin 6) (n t s : ℕ) (hn : n = H g) (ht : t = 4 * Q g) (hst : s = start g) {offw offw' : Fin 2 → ℕ}
    {pf : Vn F t 2048 .bf16 → Vn F t 2048 .f32}
    (hpf : ∀ v x, pf v x = FloatOps.extf (F := F) (φ := .bf16) .f32 bitsLt_bf16_f32 (v x))
    {s1 s2 sS : DmaSem sig} (h1 : s1 = semI (g, 7)) (h2 : s2 = semI (g, 9)) (hsS : sS = semI (g, 10))
    {spa spb : Space} {sa sb : Shape} {ea eb : EltTy} {src1 : Memref sig .tc spa sa ea} {src2 : PUnit → Memref sig .tc spb sb eb}
    {i1 j1 x1 y1} {i2 j2 x2 y2 : ∀ _ : PUnit, _} {i3 l3 : ∀ _ _ : PUnit, _}
    {i4 l4 : ∀ (_ _ : PUnit) (_ : Vn F t 2048 .bf16), _}
    {i6 x6 m6 : ∀ (_ _ : PUnit) (_ : Vn F t 2048 .bf16) (_ : Vn F t 2048 .f32), _}
    {i7 i8 r7 r8 sr7 ds7 hsem : ∀ (_ _ : PUnit) (_ : Vn F t 2048 .bf16) (_ : Vn F t 2048 .f32) (_ : PUnit), _}
    {k : PUnit → PUnit → Vn F t 2048 .bf16 → Vn F t 2048 .f32 → PUnit → PUnit →
      Prog (TpuEff nD τ sig (Elt F) Λ₀ .tc) α} {Qp : α → sProp 𝕄} :
    Com aV bV K c 33 ⊢ iprop(S5 c g -∗ (Com aV bV K c 33 -∗ S6 c g -∗ ∀ a b v u e e', WP c (k a b v u e e') Qp) -∗ WP c
      (.op (.waitDma2 s1 src1 (zM.slice (Rect.unit (s := Sh 2048 2048) offw ![n, 2048] i1) j1) x1 y1) fun a =>
        .op (.waitDma2 s2 (src2 a) (zM.slice (Rect.unit (s := Sh 2048 2048) offw' ![n, 2048] (i2 a)) (j2 a)) (x2 a) (y2 a)) fun b =>
        .op (.load zM (Rect.unit (s := Sh 2048 2048) ![s, 0] ![t, 2048] (i3 a b)).toLoadRect (l3 a b)) fun v =>
        .op (.load fM (Rect.unit (s := Sh 2048 2048) ![s, 0] ![t, 2048] (i4 a b v)).toLoadRect (l4 a b v)) fun u =>
        .op (.store fM (Rect.unit (s := Sh 2048 2048) ![s, 0] ![t, 2048] (i6 a b v u)) (pf v) Finset.univ (x6 a b v u) (m6 a b v u)) fun e =>
        .op (.enqueueDma (fM.slice (Rect.unit (s := Sh 2048 2048) ![s, 0] ![t, 2048] (i7 a b v u e)) (r7 a b v u e))
          (.here (oM.slice (Rect.unit (s := Sh 2048 2048) ![s, 0] ![t, 2048] (i8 a b v u e)) (r8 a b v u e)))
          (.dma sS) (sr7 a b v u e) (ds7 a b v u e) (hsem a b v u e)) fun e' => k a b v u e e') Qp) := by
  subst hn ht hst
  unfold Com S5 F5 S6 D5 cd ap tk zz
  have hl : ∀ (i : I) s, s ∈ tl 33 → lvI i < lvS s := fun i s h => absurd h (by rw [show tl 33 = [] by decide]; exact List.not_mem_nil)
  iintro ⟨#Hr, Ha, Hb, HO⟩ ⟨Hc0, ⟨Ha7, Ha9, Hc9, Ht10, Hf, Ho, HF⟩, HD⟩ Hk
  iapply (step_wait aV bV K c (g, 7) h1 (credit_z (H g) _ _ _) (hl _)) $$ [HO Hc0 Ha7]
  · isplitr; · iexact Hr
    isplitl [HO]; · iexact HO
    isplitl [Hc0] <;> iassumption
  iintro ⟨HO, Hz, Hz7⟩
  iapply (step_wait aV bV K c (g, 9) h2 (credit_z (H g) _ _ _) (hl _)) $$ [HO Hc9 Ha9]
  · isplitr; · iexact Hr
    isplitl [HO]; · iexact HO
    isplitl [Hc9] <;> iassumption
  iintro ⟨HO, Hz', Hz9⟩
  ihave Hz := (show iprop(pay aV bV c (g, 7) ∗ pay aV bV c (g, 9)) ⊢ zAt c (start g) (4 * Q g) (Zf aV bV c g) from z_join0 c g _) $$ [Hz Hz']
  · isplitl [Hz] <;> iassumption
  iapply (rows_load Variants.none (c := (c : Thread nD τ)) zM (lo' := start g) (n' := 4 * Q g) rfl rfl rfl rfl le_rfl le_rfl) $$ Hz
  iintro Hz
  iapply (rows_load_any Variants.none (c := (c : Thread nD τ)) fM (lo' := start g) (n' := 4 * Q g) rfl rfl rfl rfl le_rfl le_rfl) $$ Hf
  iintro %u Hf
  iapply (rows_store Variants.none (c := (c : Thread nD τ)) fM (lo := start g) (n := 4 * Q g) (V := outV aV bV c g) rfl rfl rfl rfl
    (fun x => (hpf _ x).trans rfl)) $$ Hf
  iintro Hf
  iapply (step_copy aV bV K c (g, 10) fM oM (lo := start g) (lo' := start g) (nn := 4 * Q g) (V := outV aV bV c g)
    (V' := outV aV bV c g) rfl rfl rfl rfl rfl rfl (fun i j _ => rfl) hsS (credit_o _ _ _ _) (Entails.refl _)) $$ [Hf Ho Ht10]
  · isplitr; · iexact Hr
    isplitl [Hf]; · iexact Hf
    isplitl [Ho]; · iexact Ho
    iexact Ht10
  iintro Hc
  ihave Hz := (rowsAt_any (c := (c : Thread nD τ)) zM (start g) (4 * Q g) _) $$ Hz
  iapply Hk $$ [Ha Hb HO] [Hc HF HD Hz7 Hz9 Hz] %_ %_ %_ %_ %_ %_
  · isplitr; · iexact Hr
    isplitl [Ha]; · iexact Ha
    isplitl [Hb] <;> iassumption
  · isplitl [Hc]; · iexact Hc
    isplitl [HF]; · iexact HF
    isplitl [Hz7]; · iexact Hz7
    isplitl [Hz9]; · iexact Hz9
    isplitl [Hz] <;> iassumption

/-- The copy of a group's rows done. -/
theorem step6 (c : Dev nD) (g : Fin 6) (t : ℕ) (ht : t = 4 * Q g) {offw : Fin 2 → ℕ}
    {s1 : DmaSem sig} (h1 : s1 = semI (g, 10))
    {spa : Space} {sa : Shape} {ea : EltTy} {src1 : Memref sig .tc spa sa ea} {i1 j1 x1 y1}
    {k : PUnit → Prog (TpuEff nD τ sig (Elt F) Λ₀ .tc) α} {Qp : α → sProp 𝕄} :
    Com aV bV K c 33 ⊢ iprop(S6 c g -∗ (Com aV bV K c 33 -∗ S7 aV bV c g -∗ ∀ a, WP c (k a) Qp) -∗ WP c
      (.op (.waitDma2 s1 src1 (oM.slice (Rect.unit (s := Sh 2048 2048) offw ![t, 2048] i1) j1) x1 y1) fun a => k a) Qp) := by
  subst ht
  unfold Com S6 F6 S7 cd ap zz
  have hl : ∀ (i : I) s, s ∈ tl 33 → lvI i < lvS s := fun i s h => absurd h (by rw [show tl 33 = [] by decide]; exact List.not_mem_nil)
  iintro ⟨#Hr, Ha, Hb, HO⟩ ⟨Hc0, Ha10, HD⟩ Hk
  iapply (step_wait aV bV K c (g, 10) h1 (credit_o (4 * Q g) _ _ _) (hl _)) $$ [HO Hc0 Ha10]
  · isplitr; · iexact Hr
    isplitl [HO]; · iexact HO
    isplitl [Hc0] <;> iassumption
  iintro ⟨HO, Hp, Hz⟩
  ihave Hp := (show pay aV bV c (g, 10) ⊢ iprop(rowsAt (c : Thread nD τ) oM (start g) (4 * Q g) (outV aV bV c g)
      ∗ rowsAt (c : Thread nD τ) fM (start g) (4 * Q g) (outV aV bV c g)) from Entails.refl _) $$ Hp
  icases Hp with ⟨Ho, Hf⟩
  ihave Hf := (rowsAt_any (c := (c : Thread nD τ)) fM (start g) (4 * Q g) _) $$ Hf
  iapply Hk $$ [Ha Hb HO] [Ho Hf Hz HD] %_
  · isplitr; · iexact Hr
    isplitl [Ha]; · iexact Ha
    isplitl [Hb] <;> iassumption
  · isplitl [Ho]; · iexact Ho
    isplitl [Hf]; · iexact Hf
    isplitl [Hz] <;> iassumption

end

end Cert.SiluProof
-- ==== Proof.Pays.lean ====
/-
# What the body computes

Each stored block of the body as a function of the blocks it read.
-/
module

public import proofs.«01_k».proof.Proof.Values
public import Idealize.ShloMosaic.Lib.Pointwise.Reshape

@[expose] public section

noncomputable section

namespace Cert.SiluProof

open Cert.KernelIdeal Cert.KernelIdeal.Gen
open Idealize.ShloMosaic

variable {F : FTy → Type} [FloatOps F]

theorem y1 (v : Vec F S1024x2048 .f32) : k0_pay1 v = truncf .bf16 v bitsLt_bf16_f32 := by unfold k0_pay1; simp only [shapeCast_id]
theorem y3 (v : Vec F S192x1024 .f32) (w : Vec F S1024x2048 .bf16) : k0_pay3 (k0_pay2 v) w = dotG 192 v w := by
  unfold k0_pay3 k0_pay2; simp only [shapeCast_id]; rfl
theorem y6 (v : Vec F S192x1024 .f32) (w : Vec F S1024x2048 .bf16) : k0_pay6 v w = dotG 192 v w := by
  unfold k0_pay6; simp only [shapeCast_id]; rfl
theorem y7 (v : Vec F S192x1024 .f32) (w : Vec F S1024x2048 .bf16) : k0_pay7 v w = dotG 192 v w := by
  unfold k0_pay7; simp only [shapeCast_id]; rfl
theorem y8 (v : Vec F S128x1024 .f32) (w : Vec F S1024x2048 .bf16) : k0_pay8 v w = dotG 128 v w := by
  unfold k0_pay8; simp only [shapeCast_id]; rfl
theorem y9 (v : Vec F S128x1024 .f32) (w : Vec F S1024x2048 .bf16) : k0_pay9 v w = dotG 128 v w := by
  unfold k0_pay9; simp only [shapeCast_id]; rfl
theorem y12 (v : Vec F S192x1024 .f32) (w : Vec F S1024x2048 .bf16) : k0_pay12 v w = dotG 192 v w := by
  unfold k0_pay12; simp only [shapeCast_id]; rfl
theorem y13 (v : Vec F S192x1024 .f32) (w : Vec F S1024x2048 .bf16) : k0_pay13 v w = dotG 192 v w := by
  unfold k0_pay13; simp only [shapeCast_id]; rfl
theorem y14 (v : Vec F S192x1024 .f32) (w : Vec F S1024x2048 .bf16) : k0_pay14 v w = dotG 192 v w := by
  unfold k0_pay14; simp only [shapeCast_id]; rfl
theorem y15 (v : Vec F S128x1024 .f32) (w : Vec F S1024x2048 .bf16) : k0_pay15 v w = dotG 128 v w := by
  unfold k0_pay15; simp only [shapeCast_id]; rfl
theorem y16 (v : Vec F S128x1024 .f32) (w : Vec F S1024x2048 .bf16) : k0_pay16 v w = dotG 128 v w := by
  unfold k0_pay16; simp only [shapeCast_id]; rfl
theorem y5 (v : Vec F S192x1024 .f32) (w : Vec F S1024x2048 .bf16) : k0_pay5 (k0_pay4 v w) = dotG 192 v w := by
  unfold k0_pay5 k0_pay4; simp only [shapeCast_id]; rfl
theorem y11 (v : Vec F S192x1024 .f32) (w : Vec F S1024x2048 .bf16) : k0_pay11 (k0_pay10 v) w = dotG 192 v w := by
  unfold k0_pay11 k0_pay10; simp only [shapeCast_id]; rfl

theorem y17 (v w : Vec F S192x2048 .bf16) (x) : k0_pay17 v w x = FloatOps.addf (F := F) (φ := .bf16) (v x) (w x) := by
  unfold k0_pay17; simp only [shapeCast_id]; rfl
theorem y18 (v w : Vec F S192x2048 .bf16) (x) : k0_pay18 v w x = FloatOps.addf (F := F) (φ := .bf16) (v x) (w x) := by
  unfold k0_pay18; simp only [shapeCast_id]; rfl
theorem y19 (v w : Vec F S192x2048 .bf16) (x) : k0_pay19 v w x = FloatOps.addf (F := F) (φ := .bf16) (v x) (w x) := by
  unfold k0_pay19; simp only [shapeCast_id]; rfl
theorem y20 (v w : Vec F S192x2048 .bf16) (x) : k0_pay20 v w x = FloatOps.addf (F := F) (φ := .bf16) (v x) (w x) := by
  unfold k0_pay20; simp only [shapeCast_id]; rfl
theorem y21 (v w : Vec F S128x2048 .bf16) (x) : k0_pay21 v w x = FloatOps.addf (F := F) (φ := .bf16) (v x) (w x) := by
  unfold k0_pay21; simp only [shapeCast_id]; rfl
theorem y22 (v w : Vec F S128x2048 .bf16) (x) : k0_pay22 v w x = FloatOps.addf (F := F) (φ := .bf16) (v x) (w x) := by
  unfold k0_pay22; simp only [shapeCast_id]; rfl
theorem y23 (v w : Vec F S96x2048 .bf16) (x) : k0_pay23 v w x = FloatOps.addf (F := F) (φ := .bf16) (v x) (w x) := by
  unfold k0_pay23; simp only [shapeCast_id]; rfl
theorem y24 (v w : Vec F S96x2048 .bf16) (x) : k0_pay25 (k0_pay24 v w) x = FloatOps.addf (F := F) (φ := .bf16) (v x) (w x) := by
  unfold k0_pay25 k0_pay24; simp only [shapeCast_id]; rfl
theorem y25 (v w : Vec F S96x2048 .bf16) (x) : k0_pay27 (k0_pay26 v w) x = FloatOps.addf (F := F) (φ := .bf16) (v x) (w x) := by
  unfold k0_pay27 k0_pay26; simp only [shapeCast_id]; rfl
theorem y26 (v w : Vec F S96x2048 .bf16) (x) : k0_pay28 v w x = FloatOps.addf (F := F) (φ := .bf16) (v x) (w x) := by
  unfold k0_pay28; simp only [shapeCast_id]; rfl
theorem y27 (v w : Vec F S64x2048 .bf16) (x) : k0_pay29 v w x = FloatOps.addf (F := F) (φ := .bf16) (v x) (w x) := by
  unfold k0_pay29; simp only [shapeCast_id]; rfl
theorem y28 (v w : Vec F S64x2048 .bf16) (x) : k0_pay30 v w x = FloatOps.addf (F := F) (φ := .bf16) (v x) (w x) := by
  unfold k0_pay30; simp only [shapeCast_id]; rfl
theorem y31 (v w : Vec F S96x2048 .bf16) (x) : k0_pay31 v w x = FloatOps.truncf (F := F) (φ := .f32) .bf16 bitsLt_bf16_f32
    (siluS (F := F) (FloatOps.addf (FloatOps.extf (F := F) (φ := .bf16) .f32 bitsLt_bf16_f32 (v x)) (FloatOps.extf (F := F) (φ := .bf16) .f32 bitsLt_bf16_f32 (w x)))) := by
  unfold k0_pay31; simp only [shapeCast_id]; rfl
theorem y32 (v w : Vec F S96x2048 .bf16) (x) : k0_pay32 v w x = FloatOps.truncf (F := F) (φ := .f32) .bf16 bitsLt_bf16_f32
    (siluS (F := F) (FloatOps.addf (FloatOps.extf (F := F) (φ := .bf16) .f32 bitsLt_bf16_f32 (v x)) (FloatOps.extf (F := F) (φ := .bf16) .f32 bitsLt_bf16_f32 (w x)))) := by
  unfold k0_pay32; simp only [shapeCast_id]; rfl
theorem y33 (v w : Vec F S96x2048 .bf16) (x) : k0_pay33 v w x = FloatOps.truncf (F := F) (φ := .f32) .bf16 bitsLt_bf16_f32
    (siluS (F := F) (FloatOps.addf (FloatOps.extf (F := F) (φ := .bf16) .f32 bitsLt_bf16_f32 (v x)) (FloatOps.extf (F := F) (φ := .bf16) .f32 bitsLt_bf16_f32 (w x)))) := by
  unfold k0_pay33; simp only [shapeCast_id]; rfl
theorem y34 (v w : Vec F S96x2048 .bf16) (x) : k0_pay34 v w x = FloatOps.truncf (F := F) (φ := .f32) .bf16 bitsLt_bf16_f32
    (siluS (F := F) (FloatOps.addf (FloatOps.extf (F := F) (φ := .bf16) .f32 bitsLt_bf16_f32 (v x)) (FloatOps.extf (F := F) (φ := .bf16) .f32 bitsLt_bf16_f32 (w x)))) := by
  unfold k0_pay34; simp only [shapeCast_id]; rfl
theorem y35 (v w : Vec F S64x2048 .bf16) (x) : k0_pay37 (k0_pay35 v w) (k0_pay36 v w) x = FloatOps.truncf (F := F) (φ := .f32) .bf16 bitsLt_bf16_f32
    (siluS (F := F) (FloatOps.addf (FloatOps.extf (F := F) (φ := .bf16) .f32 bitsLt_bf16_f32 (v x)) (FloatOps.extf (F := F) (φ := .bf16) .f32 bitsLt_bf16_f32 (w x)))) := by
  unfold k0_pay37 k0_pay35 k0_pay36; simp only [shapeCast_id]; rfl
theorem y36 (v w : Vec F S64x2048 .bf16) (x) : k0_pay38 v w x = FloatOps.truncf (F := F) (φ := .f32) .bf16 bitsLt_bf16_f32
    (siluS (F := F) (FloatOps.addf (FloatOps.extf (F := F) (φ := .bf16) .f32 bitsLt_bf16_f32 (v x)) (FloatOps.extf (F := F) (φ := .bf16) .f32 bitsLt_bf16_f32 (w x)))) := by
  unfold k0_pay38; simp only [shapeCast_id]; rfl
theorem y39 (v : Vec F S384x2048 .bf16) (x) : k0_pay39 v x = FloatOps.extf (F := F) (φ := .bf16) .f32 bitsLt_bf16_f32 (v x) := by
  unfold k0_pay39; simp only [shapeCast_id]; rfl
theorem y40 (v : Vec F S384x2048 .bf16) (x) : k0_pay40 v x = FloatOps.extf (F := F) (φ := .bf16) .f32 bitsLt_bf16_f32 (v x) := by
  unfold k0_pay40; simp only [shapeCast_id]; rfl
theorem y41 (v : Vec F S384x2048 .bf16) (x) : k0_pay41 v x = FloatOps.extf (F := F) (φ := .bf16) .f32 bitsLt_bf16_f32 (v x) := by
  unfold k0_pay41; simp only [shapeCast_id]; rfl
theorem y42 (v : Vec F S384x2048 .bf16) (x) : k0_pay42 v x = FloatOps.extf (F := F) (φ := .bf16) .f32 bitsLt_bf16_f32 (v x) := by
  unfold k0_pay42; simp only [shapeCast_id]; rfl
theorem y43 (v : Vec F S256x2048 .bf16) (x) : k0_pay43 v x = FloatOps.extf (F := F) (φ := .bf16) .f32 bitsLt_bf16_f32 (v x) := by
  unfold k0_pay43; simp only [shapeCast_id]; rfl
theorem y44 (v : Vec F S256x2048 .bf16) (x) : k0_pay44 v x = FloatOps.extf (F := F) (φ := .bf16) .f32 bitsLt_bf16_f32 (v x) := by
  unfold k0_pay44; simp only [shapeCast_id]; rfl

end Cert.SiluProof
-- ==== Proof.Body.lean ====
/-
# The body

The kernel's body on one device, step by step.
-/
module

public import proofs.«01_k».proof.Proof.Stages
public import proofs.«01_k».proof.Proof.Pays
public import proofs.«01_k».proof.Proof.Gen.KernelIdeal.Points

@[expose] public section

noncomputable section

namespace Cert.SiluProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Partners and rows, as the body computes them -/

theorem d4 (c : Dev nD) : (⟨k0_dev4 c, k0_dev4_lt c⟩ : Dev nD) = pr 0 0 c := by revert c; decide
theorem d5 (c : Dev nD) : (⟨k0_dev5 c, k0_dev5_lt c⟩ : Dev nD) = pr 1 0 c := by revert c; decide
theorem d6 (c : Dev nD) : (⟨k0_dev6 c, k0_dev6_lt c⟩ : Dev nD) = pr 2 0 c := by revert c; decide
theorem d7 (c : Dev nD) : (⟨k0_dev7 c, k0_dev7_lt c⟩ : Dev nD) = pr 3 0 c := by revert c; decide
theorem d8 (c : Dev nD) : (⟨k0_dev8 c, k0_dev8_lt c⟩ : Dev nD) = pr 4 0 c := by revert c; decide
theorem d9 (c : Dev nD) : (⟨k0_dev9 c, k0_dev9_lt c⟩ : Dev nD) = pr 5 0 c := by revert c; decide
theorem d10 (c : Dev nD) : (⟨k0_dev10 c, k0_dev10_lt c⟩ : Dev nD) = pr 0 1 c := by revert c; decide
theorem d11 (c : Dev nD) : (⟨k0_dev11 c, k0_dev11_lt c⟩ : Dev nD) = pr 1 1 c := by revert c; decide
theorem d12 (c : Dev nD) : (⟨k0_dev12 c, k0_dev12_lt c⟩ : Dev nD) = pr 2 1 c := by revert c; decide
theorem d13 (c : Dev nD) : (⟨k0_dev13 c, k0_dev13_lt c⟩ : Dev nD) = pr 3 1 c := by revert c; decide
theorem d14 (c : Dev nD) : (⟨k0_dev14 c, k0_dev14_lt c⟩ : Dev nD) = pr 4 1 c := by revert c; decide
theorem d15 (c : Dev nD) : (⟨k0_dev15 c, k0_dev15_lt c⟩ : Dev nD) = pr 5 1 c := by revert c; decide
theorem d16 (c : Dev nD) : (⟨k0_dev16 c, k0_dev16_lt c⟩ : Dev nD) = pr 0 2 c := by revert c; decide
theorem d17 (c : Dev nD) : (⟨k0_dev17 c, k0_dev17_lt c⟩ : Dev nD) = pr 1 2 c := by revert c; decide
theorem d18 (c : Dev nD) : (⟨k0_dev18 c, k0_dev18_lt c⟩ : Dev nD) = pr 2 2 c := by revert c; decide
theorem d19 (c : Dev nD) : (⟨k0_dev19 c, k0_dev19_lt c⟩ : Dev nD) = pr 3 2 c := by revert c; decide
theorem d20 (c : Dev nD) : (⟨k0_dev20 c, k0_dev20_lt c⟩ : Dev nD) = pr 4 2 c := by revert c; decide
theorem d21 (c : Dev nD) : (⟨k0_dev21 c, k0_dev21_lt c⟩ : Dev nD) = pr 5 2 c := by revert c; decide
theorem d22 (c : Dev nD) : (⟨k0_dev22 c, k0_dev22_lt c⟩ : Dev nD) = pr 0 1 c := by revert c; decide
theorem d23 (c : Dev nD) : (⟨k0_dev23 c, k0_dev23_lt c⟩ : Dev nD) = pr 1 1 c := by revert c; decide
theorem d24 (c : Dev nD) : (⟨k0_dev24 c, k0_dev24_lt c⟩ : Dev nD) = pr 2 1 c := by revert c; decide
theorem d25 (c : Dev nD) : (⟨k0_dev25 c, k0_dev25_lt c⟩ : Dev nD) = pr 3 1 c := by revert c; decide
theorem d26 (c : Dev nD) : (⟨k0_dev26 c, k0_dev26_lt c⟩ : Dev nD) = pr 4 1 c := by revert c; decide
theorem d27 (c : Dev nD) : (⟨k0_dev27 c, k0_dev27_lt c⟩ : Dev nD) = pr 5 1 c := by revert c; decide
theorem d28 (c : Dev nD) : (⟨k0_dev28 c, k0_dev28_lt c⟩ : Dev nD) = pr 0 0 c := by revert c; decide
theorem d29 (c : Dev nD) : (⟨k0_dev29 c, k0_dev29_lt c⟩ : Dev nD) = pr 1 0 c := by revert c; decide
theorem d30 (c : Dev nD) : (⟨k0_dev30 c, k0_dev30_lt c⟩ : Dev nD) = pr 2 0 c := by revert c; decide
theorem d31 (c : Dev nD) : (⟨k0_dev31 c, k0_dev31_lt c⟩ : Dev nD) = pr 3 0 c := by revert c; decide
theorem d32 (c : Dev nD) : (⟨k0_dev32 c, k0_dev32_lt c⟩ : Dev nD) = pr 4 0 c := by revert c; decide
theorem d33 (c : Dev nD) : (⟨k0_dev33 c, k0_dev33_lt c⟩ : Dev nD) = pr 5 0 c := by revert c; decide
theorem oa0 (c : Dev nD) : k0_off1 c 0#32 = ![K0 0 (pr 0 0 c), 0] := by revert c; decide
theorem oz0 (c : Dev nD) : k0_off2 c 0#32 = ![K0 0 (pr 0 0 c), 0] := by revert c; decide
theorem os0 (c : Dev nD) : k0_off3 c 0#32 = ![K0 0 (pr 0 0 c), 0] := by revert c; decide
theorem oka0 (c : Dev nD) : k0_off10 c 0#32 = ![K0 0 c, 0] := by revert c; decide
theorem okz0 (c : Dev nD) : k0_off11 c 0#32 = ![K0 0 c, 0] := by revert c; decide
theorem oq0 (c : Dev nD) : k0_off16 c 0#32 = ![K1 0 (pr 0 1 c), 0] := by revert c; decide
theorem oy0 (c : Dev nD) : k0_off21 c 0#32 = ![K1 0 c, 0] := by revert c; decide
theorem ow0 (c : Dev nD) : k0_off22 c 0#32 = ![K1 0 c, 0] := by revert c; decide
theorem oh0 (c : Dev nD) : k0_off31 c 0#32 = ![K0 0 c, 0] := by revert c; decide
theorem oa1 (c : Dev nD) : k0_off4 c 384#32 1#32 = ![K0 1 (pr 1 0 c), 0] := by revert c; decide
theorem oz1 (c : Dev nD) : k0_off5 c 384#32 1#32 = ![K0 1 (pr 1 0 c), 0] := by revert c; decide
theorem os1 (c : Dev nD) : k0_off6 c 384#32 1#32 = ![K0 1 (pr 1 0 c), 0] := by revert c; decide
theorem oka1 (c : Dev nD) : k0_off12 c 384#32 1#32 = ![K0 1 c, 0] := by revert c; decide
theorem okz1 (c : Dev nD) : k0_off13 c 384#32 1#32 = ![K0 1 c, 0] := by revert c; decide
theorem oq1 (c : Dev nD) : k0_off17 c = ![K1 1 (pr 1 1 c), 0] := by revert c; decide
theorem oy1 (c : Dev nD) : k0_off23 c = ![K1 1 c, 0] := by revert c; decide
theorem ow1 (c : Dev nD) : k0_off24 c = ![K1 1 c, 0] := by revert c; decide
theorem oh1 (c : Dev nD) : k0_off32 c = ![K0 1 c, 0] := by revert c; decide
theorem oa2 (c : Dev nD) : k0_off4 c 768#32 2#32 = ![K0 2 (pr 2 0 c), 0] := by revert c; decide
theorem oz2 (c : Dev nD) : k0_off5 c 768#32 2#32 = ![K0 2 (pr 2 0 c), 0] := by revert c; decide
theorem os2 (c : Dev nD) : k0_off6 c 768#32 2#32 = ![K0 2 (pr 2 0 c), 0] := by revert c; decide
theorem oka2 (c : Dev nD) : k0_off12 c 768#32 2#32 = ![K0 2 c, 0] := by revert c; decide
theorem okz2 (c : Dev nD) : k0_off13 c 768#32 2#32 = ![K0 2 c, 0] := by revert c; decide
theorem oq2 (c : Dev nD) : k0_off18 c = ![K1 2 (pr 2 1 c), 0] := by revert c; decide
theorem oy2 (c : Dev nD) : k0_off25 c = ![K1 2 c, 0] := by revert c; decide
theorem ow2 (c : Dev nD) : k0_off26 c = ![K1 2 c, 0] := by revert c; decide
theorem oh2 (c : Dev nD) : k0_off33 c = ![K0 2 c, 0] := by revert c; decide
theorem oa3 (c : Dev nD) : k0_off1 c 1152#32 = ![K0 3 (pr 3 0 c), 0] := by revert c; decide
theorem oz3 (c : Dev nD) : k0_off2 c 1152#32 = ![K0 3 (pr 3 0 c), 0] := by revert c; decide
theorem os3 (c : Dev nD) : k0_off3 c 1152#32 = ![K0 3 (pr 3 0 c), 0] := by revert c; decide
theorem oka3 (c : Dev nD) : k0_off10 c 1152#32 = ![K0 3 c, 0] := by revert c; decide
theorem okz3 (c : Dev nD) : k0_off11 c 1152#32 = ![K0 3 c, 0] := by revert c; decide
theorem oq3 (c : Dev nD) : k0_off16 c 1152#32 = ![K1 3 (pr 3 1 c), 0] := by revert c; decide
theorem oy3 (c : Dev nD) : k0_off21 c 1152#32 = ![K1 3 c, 0] := by revert c; decide
theorem ow3 (c : Dev nD) : k0_off22 c 1152#32 = ![K1 3 c, 0] := by revert c; decide
theorem oh3 (c : Dev nD) : k0_off31 c 1152#32 = ![K0 3 c, 0] := by revert c; decide
theorem oa4 (c : Dev nD) : k0_off7 c 1536#32 1#32 = ![K0 4 (pr 4 0 c), 0] := by revert c; decide
theorem oz4 (c : Dev nD) : k0_off8 c 1536#32 1#32 = ![K0 4 (pr 4 0 c), 0] := by revert c; decide
theorem os4 (c : Dev nD) : k0_off9 c 1536#32 1#32 = ![K0 4 (pr 4 0 c), 0] := by revert c; decide
theorem oka4 (c : Dev nD) : k0_off14 c 1536#32 1#32 = ![K0 4 c, 0] := by revert c; decide
theorem okz4 (c : Dev nD) : k0_off15 c 1536#32 1#32 = ![K0 4 c, 0] := by revert c; decide
theorem oq4 (c : Dev nD) : k0_off19 c = ![K1 4 (pr 4 1 c), 0] := by revert c; decide
theorem oy4 (c : Dev nD) : k0_off27 c = ![K1 4 c, 0] := by revert c; decide
theorem ow4 (c : Dev nD) : k0_off28 c = ![K1 4 c, 0] := by revert c; decide
theorem oh4 (c : Dev nD) : k0_off34 c = ![K0 4 c, 0] := by revert c; decide
theorem oa5 (c : Dev nD) : k0_off7 c 1792#32 2#32 = ![K0 5 (pr 5 0 c), 0] := by revert c; decide
theorem oz5 (c : Dev nD) : k0_off8 c 1792#32 2#32 = ![K0 5 (pr 5 0 c), 0] := by revert c; decide
theorem os5 (c : Dev nD) : k0_off9 c 1792#32 2#32 = ![K0 5 (pr 5 0 c), 0] := by revert c; decide
theorem oka5 (c : Dev nD) : k0_off14 c 1792#32 2#32 = ![K0 5 c, 0] := by revert c; decide
theorem okz5 (c : Dev nD) : k0_off15 c 1792#32 2#32 = ![K0 5 c, 0] := by revert c; decide
theorem oq5 (c : Dev nD) : k0_off20 c = ![K1 5 (pr 5 1 c), 0] := by revert c; decide
theorem oy5 (c : Dev nD) : k0_off29 c = ![K1 5 c, 0] := by revert c; decide
theorem ow5 (c : Dev nD) : k0_off30 c = ![K1 5 c, 0] := by revert c; decide
theorem oh5 (c : Dev nD) : k0_off35 c = ![K0 5 c, 0] := by revert c; decide

/-! ## A group before the first step -/

/-- What a device holds of a group before the first step, but for the parts of its partners' landing buffers. -/
def ini (c : Dev nD) (g : Fin 6) : sProp 𝕄 :=
  iprop(zAny (F := F) c (start g) (4 * Q g) ∗ rowsAny (F := F) (c : Thread nD τ) fM (start g) (4 * Q g)
    ∗ rowsAny (F := F) (c : Thread nD τ) oM (start g) (4 * Q g)
    ∗ (tk c g 0 ∗ tk c g 1 ∗ tk c g 2 ∗ tk c g 3 ∗ tk c g 4 ∗ tk c g 5 ∗ tk c g 6 ∗ tk c g 7 ∗ tk c g 8 ∗ tk c g 9 ∗ tk c g 10)
    ∗ (ap c g 0 ∗ ap c g 1 ∗ ap c g 2 ∗ ap c g 3 ∗ ap c g 4 ∗ ap c g 5 ∗ ap c g 6 ∗ ap c g 7 ∗ ap c g 8 ∗ ap c g 9 ∗ ap c g 10)
    ∗ (cd c g 3 ∗ cd c g 4 ∗ cd c g 5 ∗ cd c g 8 ∗ cd c g 9))

/-- The parts handed over at the entry, group by group. -/
def wins (c : Dev nD) (g : Fin 6) : sProp 𝕄 := iprop(win (F := F) (pr g 0 c) g 0 ∗ win (pr g 1 c) g 1 ∗ win (pr g 2 c) g 2)

theorem z_halves (c : Dev nD) (g : Fin 6) :
    zAny c (start g) (4 * Q g) ⊢ (iprop(zAny c (K0 g c) (H g) ∗ zAny c (K0 g (pr g 0 c)) (H g)) : sProp 𝕄) := by
  have hH : 4 * Q g = H g + H g := by unfold H; omega
  rcases K0_cases g c with ⟨e1, e2⟩ | ⟨e1, e2⟩
  · rw [e1, e2, hH]; exact rowsAny_split (c := (c : Thread nD τ)) zM (start g) (H g) (H g)
  · rw [e1, e2, hH]
    iintro Hz
    ihave Hz := (rowsAny_split (c := (c : Thread nD τ)) zM (start g) (H g) (H g)) $$ Hz
    icases Hz with ⟨H1, H2⟩
    isplitl [H2] <;> iassumption

theorem S0_of (c : Dev nD) (g : Fin 6) :
    iprop(ini c g ∗ wins c g) ⊢ (S0 c g : sProp 𝕄) := by
  unfold ini wins S0 F1 F2 F3 F4 F5 F6
  iintro ⟨⟨Hz, Hf, Ho, ⟨T0, T1, T2, T3, T4, T5, T6, T7, T8, T9, T10⟩, ⟨A0, A1, A2, A3, A4, A5, A6, A7, A8, A9, A10⟩, C3, C4, C5, C8, C9⟩, W0, W1, W2⟩
  ihave Hz := (z_halves c g) $$ Hz
  icases Hz with ⟨Hk, Hs⟩
  isplitl [Hs]; · iexact Hs
  isplitl [W0]; · iexact W0
  isplitl [T0]; · iexact T0
  isplitl [T3]; · iexact T3
  isplitl [Hk]; · iexact Hk
  isplitl [A0]; · iexact A0
  isplitl [A3]; · iexact A3
  isplitl [C3]; · iexact C3
  isplitl [T1]; · iexact T1
  isplitl [T4]; · iexact T4
  isplitl [W1]; · iexact W1
  isplitl [A1]; · iexact A1
  isplitl [A4]; · iexact A4
  isplitl [C4]; · iexact C4
  isplitl [T2]; · iexact T2
  isplitl [T5]; · iexact T5
  isplitl [W2]; · iexact W2
  isplitl [A2]; · iexact A2
  isplitl [A5]; · iexact A5
  isplitl [C5]; · iexact C5
  isplitl [T6]; · iexact T6
  isplitl [T8]; · iexact T8
  isplitl [A6]; · iexact A6
  isplitl [A8]; · iexact A8
  isplitl [C8]; · iexact C8
  isplitl [T7]; · iexact T7
  isplitl [T9]; · iexact T9
  isplitl [A7]; · iexact A7
  isplitl [A9]; · iexact A9
  isplitl [C9]; · iexact C9
  isplitl [T10]; · iexact T10
  isplitl [Hf]; · iexact Hf
  isplitl [Ho]; · iexact Ho
  iexact A10

theorem bigSep_6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
theorem bigSep_3 (Φ : Fin 3 → sProp 𝕄) : bigSep Finset.univ Φ = iprop(Φ 0 ∗ Φ 1 ∗ Φ 2) :=
  bigSep_univ_eq_bigSepL [0, 1, 2] (by decide) (by decide) Φ

theorem wins_intro (c : Dev nD) : bigSep Finset.univ (fun d : Fin 3 => barPay c d)
    ⊢ (iprop(wins c 0 ∗ wins c 1 ∗ wins c 2 ∗ wins c 3 ∗ wins c 4 ∗ wins c 5) : sProp 𝕄) := by
  rw [bigSep_3]; unfold barPay; rw [bigSep_6, bigSep_6, bigSep_6]; unfold wins
  iintro ⟨⟨W00, W01, W02, W03, W04, W05⟩, ⟨W10, W11, W12, W13, W14, W15⟩, ⟨W20, W21, W22, W23, W24, W25⟩⟩
  isplitl [W00 W10 W20]
  · isplitl [W00]; · iexact W00
    isplitl [W10]; · iexact W10
    iexact W20
  isplitl [W11 W21 W01]
  · isplitl [W11]; · iexact W11
    isplitl [W21]; · iexact W21
    iexact W01
  isplitl [W22 W02 W12]
  · isplitl [W22]; · iexact W22
    isplitl [W02]; · iexact W02
    iexact W12
  isplitl [W03 W13 W23]
  · isplitl [W03]; · iexact W03
    isplitl [W13]; · iexact W13
    iexact W23
  isplitl [W14 W24 W04]
  · isplitl [W14]; · iexact W14
    isplitl [W24]; · iexact W24
    iexact W04
  · isplitl [W25]; · iexact W25
    isplitl [W05]; · iexact W05
    iexact W15

/-! ## The body -/

/-- One step taken, the other groups and the rest held. -/
theorem rot {P P' X X' A B C D E L W W' : sProp 𝕄} (h : P ⊢ iprop(X -∗ (P' -∗ X' -∗ W') -∗ W))
    (hk : iprop(P' ∗ A ∗ B ∗ C ∗ D ∗ E ∗ X' ∗ L) ⊢ W') : iprop(P ∗ X ∗ A ∗ B ∗ C ∗ D ∗ E ∗ L) ⊢ W := by
  iintro ⟨HP, HX, HA, HB, HC, HD, HE, HL⟩
  iapply h $$ HP HX
  iintro HP HX
  iapply hk
  isplitl [HP]; · iexact HP
  isplitl [HA]; · iexact HA
  isplitl [HB]; · iexact HB
  isplitl [HC]; · iexact HC
  isplitl [HD]; · iexact HD
  isplitl [HE]; · iexact HE
  isplitl [HX]; · iexact HX
  iexact HL

section

variable (aV bV : Dev nD → ℕ → ℕ → Elt F .f32) (K : Dev nD × Option I → ℕ)

/-- What the body leaves. -/
def fin (c : Dev nD) : sProp 𝕄 :=
  iprop(Com aV bV K c 33 ∗ (S7 aV bV c 0 ∗ S7 aV bV c 1 ∗ S7 aV bV c 2 ∗ S7 aV bV c 3 ∗ S7 aV bV c 4 ∗ S7 aV bV c 5)
    ∗ rowsAt (c : Thread nD τ) bM 0 1024 (bV c) ∗ semVal (cellB c) 0)

set_option maxRecDepth 100000 in
set_option maxHeartbeats 4000000 in
theorem body (c : Dev nD) (Kt : PUnit → sProp 𝕄) :
    iprop((recs aV bV K ∗ rowsAt (c : Thread nD τ) aM 0 2048 (aV c) ∗ rowsAt (c : Thread nD τ) bM 0 1024 (bV c)
        ∗ rowsAny (F := F) (c : Thread nD τ) bbM 0 1024 ∗ ow c (tl 0))
      ∗ (dutyTok ER (cellB (par 0 c)) 0 (0 : Fin 3) ∗ dutyTok ER (cellB (par 1 c)) 0 (1 : Fin 3) ∗ dutyTok ER (cellB (par 2 c)) 0 (2 : Fin 3))
      ∗ (barPay (F := F) (par 0 c) 0 ∗ barPay (F := F) (par 1 c) 1 ∗ barPay (F := F) (par 2 c) 2)
      ∗ cred (tallyAt (cellB c) () 3) ∗ atPos ER (cellB c) 0 ∅ 0
      ∗ (ini c 0 ∗ ini c 1 ∗ ini c 2 ∗ ini c 3 ∗ ini c 4 ∗ ini c 5)
      ∗ (fin aV bV K c -∗ Kt ⟨⟩))
      ⊢ wp frame (wpE (defs₀ (F := F)) Variants.none (c : Thread nD τ) none) Set.univ
          (cc0_body (F := F) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13) Kt := by
  simp only [cc0_body_eq_skeleton]; unfold cc0_body_skel
  simp only [k0_part40_eq_skeleton]; unfold k0_part40_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel
  simp only [semSignalWord, semWaitWord, Prog.lift, Prog.bind_op, Prog.bind_ret, Prog.pure_eq_ret, wp_deviceId]
  iintro ⟨⟨#Hr, Ha, HB, Hbb, HO⟩, ⟨Ht0, Ht1, Ht2⟩, ⟨Hp0, Hp1, Hp2⟩, Hc, Hat, ⟨G0, G1, G2, G3, G4, G5⟩, Hk⟩
  iapply (step_signal aV bV K c 0 _ (by revert c; decide) (l := tl 1)) $$ [HO Ht0 Hp0]
  · isplitr; · iexact Hr
    isplitl [HO]; · iexact HO
    isplitl [Ht0] <;> iassumption
  iintro HO
  iapply (step_signal aV bV K c 1 _ (by revert c; decide) (l := tl 2)) $$ [HO Ht1 Hp1]
  · isplitr; · iexact Hr
    isplitl [HO]; · iexact HO
    isplitl [Ht1] <;> iassumption
  iintro HO
  iapply (step_signal aV bV K c 2 _ (by revert c; decide) (l := tl 3)) $$ [HO Ht2 Hp2]
  · isplitr; · iexact Hr
    isplitl [HO]; · iexact HO
    isplitl [Ht2] <;> iassumption
  iintro HO
  iapply (step_enter aV bV K c (l := tl 3) lv_bar) $$ [HO Hc Hat]
  · isplitr; · iexact Hr
    isplitl [HO]; · iexact HO
    isplitl [Hc] <;> iassumption
  iintro ⟨HO, Hp, HzB⟩
  iapply (rows_load Variants.none (c := (c : Thread nD τ)) bM (lo' := 0) (n' := 1024) rfl rfl rfl rfl le_rfl le_rfl) $$ HB
  iintro HB
  iapply (rows_load_any Variants.none (c := (c : Thread nD τ)) bbM (lo' := 0) (n' := 1024) rfl rfl rfl rfl le_rfl le_rfl) $$ Hbb
  iintro %u Hbb
  iapply (rows_store Variants.none (c := (c : Thread nD τ)) bbM (lo := 0) (n := 1024) (V := bbV bV c) rfl rfl rfl rfl (by intro x; rw [y1]; rfl)) $$ Hbb
  iintro Hbb
  ihave Hp := (wins_intro c) $$ Hp
  icases Hp with ⟨W0, W1, W2, W3, W4, W5⟩
  ihave G0 := (S0_of c 0) $$ [G0 W0]
  · isplitl [G0]; · iexact G0
    iexact W0
  ihave G1 := (S0_of c 1) $$ [G1 W1]
  · isplitl [G1]; · iexact G1
    iexact W1
  ihave G2 := (S0_of c 2) $$ [G2 W2]
  · isplitl [G2]; · iexact G2
    iexact W2
  ihave G3 := (S0_of c 3) $$ [G3 W3]
  · isplitl [G3]; · iexact G3
    iexact W3
  ihave G4 := (S0_of c 4) $$ [G4 W4]
  · isplitl [G4]; · iexact G4
    iexact W4
  ihave G5 := (S0_of c 5) $$ [G5 W5]
  · isplitl [G5]; · iexact G5
    iexact W5
  iapply (?_ : iprop(Com aV bV K c 3 ∗ S0 (F := F) c 0 ∗ S0 (F := F) c 1 ∗ S0 (F := F) c 2 ∗ S0 (F := F) c 3 ∗ S0 (F := F) c 4 ∗ S0 (F := F) c 5 ∗ (rowsAt (c : Thread nD τ) bM 0 1024 (bV c) ∗ semVal (cellB c) 0 ∗ (fin aV bV K c -∗ Kt ⟨⟩))) ⊢ _) $$ [Ha Hbb HO G0 G1 G2 G3 G4 G5 HB HzB Hk]
  rotate_left
  · isplitl [Ha Hbb HO]
    · unfold Com
      isplitr; · iexact Hr
      isplitl [Ha]; · iexact Ha
      isplitl [Hbb] <;> iassumption
    isplitl [G0]; · iexact G0
    isplitl [G1]; · iexact G1
    isplitl [G2]; · iexact G2
    isplitl [G3]; · iexact G3
    isplitl [G4]; · iexact G4
    isplitl [G5]; · iexact G5
    isplitl [HB]; · iexact HB
    isplitl [HzB] <;> iassumption
  refine rot (step0 aV bV K c 0 192 3 4 rfl rfl rfl _ (d4 c) (oa0 c) (oz0 c) (os0 c) (pf := fun v w => k0_pay3 (k0_pay2 v) w) y3 rfl rfl) ?_
  refine forall_intro fun _ => ?_; refine forall_intro fun _ => ?_; refine forall_intro fun _ => ?_; refine forall_intro fun _ => ?_; refine forall_intro fun _ => ?_
  refine rot (step0 aV bV K c 1 192 4 5 rfl rfl rfl _ (d5 c) (oa1 c) (oz1 c) (os1 c) (pf := fun v w => k0_pay5 (k0_pay4 v w)) y5 rfl rfl) ?_
  refine forall_intro fun _ => ?_; refine forall_intro fun _ => ?_; refine forall_intro fun _ => ?_; refine forall_intro fun _ => ?_; refine forall_intro fun _ => ?_
  refine rot (step0 aV bV K c 2 192 5 6 rfl rfl rfl _ (d6 c) (oa2 c) (oz2 c) (os2 c) (pf := fun v w => k0_pay6 v w) y6 rfl rfl) ?_
  refine forall_intro fun _ => ?_; refine forall_intro fun _ => ?_; refine forall_intro fun _ => ?_; refine forall_intro fun _ => ?_; refine forall_intro fun _ => ?_
  refine rot (step0 aV bV K c 3 192 6 7 rfl rfl rfl _ (d7 c) (oa3 c) (oz3 c) (os3 c) (pf := fun v w => k0_pay7 v w) y7 rfl rfl) ?_
  refine forall_intro fun _ => ?_; refine forall_intro fun _ => ?_; refine forall_intro fun _ => ?_; refine forall_intro fun _ => ?_; refine forall_intro fun _ => ?_
  refine rot (step0 aV bV K c 4 128 7 8 rfl rfl rfl _ (d8 c) (oa4 c) (oz4 c) (os4 c) (pf := fun v w => k0_pay8 v w) y8 rfl rfl) ?_
  refine forall_intro fun _ => ?_; refine forall_intro fun _ => ?_; refine forall_intro fun _ => ?_; refine forall_intro fun _ => ?_; refine forall_intro fun _ => ?_
  refine rot (step0 aV bV K c 5 128 8 9 rfl rfl rfl _ (d9 c) (oa5 c) (oz5 c) (os5 c) (pf := fun v w => k0_pay9 v w) y9 rfl rfl) ?_
  refine forall_intro fun _ => ?_; refine forall_intro fun _ => ?_; refine forall_intro fun _ => ?_; refine forall_intro fun _ => ?_; refine forall_intro fun _ => ?_
  refine rot (step0b aV bV K c 0 192 9 rfl (oka0 c) (okz0 c) (pf := fun v w => k0_pay11 (k0_pay10 v) w) y11) ?_
  refine forall_intro fun _ => ?_; refine forall_intro fun _ => ?_; refine forall_intro fun _ => ?_; refine forall_intro fun _ => ?_
  refine rot (step0b aV bV K c 1 192 9 rfl (oka1 c) (okz1 c) (pf := fun v w => k0_pay12 v w) y12) ?_
  refine forall_intro fun _ => ?_; refine forall_intro fun _ => ?_; refine forall_intro fun _ => ?_; refine forall_intro fun _ => ?_
  refine rot (step0b aV bV K c 2 192 9 rfl (oka2 c) (okz2 c) (pf := fun v w => k0_pay13 v w) y13) ?_
  refine forall_intro fun _ => ?_; refine forall_intro fun _ => ?_; refine forall_intro fun _ => ?_; refine forall_intro fun _ => ?_
  refine rot (step0b aV bV K c 3 192 9 rfl (oka3 c) (okz3 c) (pf := fun v w => k0_pay14 v w) y14) ?_
  refine forall_intro fun _ => ?_; refine forall_intro fun _ => ?_; refine forall_intro fun _ => ?_; refine forall_intro fun _ => ?_
  refine rot (step0b aV bV K c 4 128 9 rfl (oka4 c) (okz4 c) (pf := fun v w => k0_pay15 v w) y15) ?_
  refine forall_intro fun _ => ?_; refine forall_intro fun _ => ?_; refine forall_intro fun _ => ?_; refine forall_intro fun _ => ?_
  refine rot (step0b aV bV K c 5 128 9 rfl (oka5 c) (okz5 c) (pf := fun v w => k0_pay16 v w) y16) ?_
  refine forall_intro fun _ => ?_; refine forall_intro fun _ => ?_; refine forall_intro fun _ => ?_; refine forall_intro fun _ => ?_
  refine rot (step1 aV bV K c 0 192 96 9 10 rfl rfl rfl rfl _ (d10 c) (os0 c) (okz0 c) (oq0 c) (pf := fun v w => k0_pay17 v w) y17 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step1 aV bV K c 1 192 96 10 11 rfl rfl rfl rfl _ (d11 c) (os1 c) (okz1 c) (oq1 c) (pf := fun v w => k0_pay18 v w) y18 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step1 aV bV K c 2 192 96 11 12 rfl rfl rfl rfl _ (d12 c) (os2 c) (okz2 c) (oq2 c) (pf := fun v w => k0_pay19 v w) y19 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step1 aV bV K c 3 192 96 12 13 rfl rfl rfl rfl _ (d13 c) (os3 c) (okz3 c) (oq3 c) (pf := fun v w => k0_pay20 v w) y20 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step1 aV bV K c 4 128 64 13 14 rfl rfl rfl rfl _ (d14 c) (os4 c) (okz4 c) (oq4 c) (pf := fun v w => k0_pay21 v w) y21 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step1 aV bV K c 5 128 64 14 15 rfl rfl rfl rfl _ (d15 c) (os5 c) (okz5 c) (oq5 c) (pf := fun v w => k0_pay22 v w) y22 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step2 aV bV K c 0 96 192 288 15 16 rfl rfl rfl rfl rfl _ (d16 c) (oy0 c) (ow0 c) (pf := fun v w => k0_pay23 v w) y23 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step2 aV bV K c 1 96 192 288 16 17 rfl rfl rfl rfl rfl _ (d17 c) (oy1 c) (ow1 c) (pf := fun v w => k0_pay25 (k0_pay24 v w)) y24 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step2 aV bV K c 2 96 192 288 17 18 rfl rfl rfl rfl rfl _ (d18 c) (oy2 c) (ow2 c) (pf := fun v w => k0_pay27 (k0_pay26 v w)) y25 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step2 aV bV K c 3 96 192 288 18 19 rfl rfl rfl rfl rfl _ (d19 c) (oy3 c) (ow3 c) (pf := fun v w => k0_pay28 v w) y26 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step2 aV bV K c 4 64 128 192 19 20 rfl rfl rfl rfl rfl _ (d20 c) (oy4 c) (ow4 c) (pf := fun v w => k0_pay29 v w) y27 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step2 aV bV K c 5 64 128 192 20 21 rfl rfl rfl rfl rfl _ (d21 c) (oy5 c) (ow5 c) (pf := fun v w => k0_pay30 v w) y28 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step3 aV bV K c 0 96 288 21 22 rfl rfl rfl rfl _ (d22 c) (oy0 c) (ow0 c) (pf := fun v w => k0_pay31 v w) y31 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step3 aV bV K c 1 96 288 22 23 rfl rfl rfl rfl _ (d23 c) (oy1 c) (ow1 c) (pf := fun v w => k0_pay32 v w) y32 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step3 aV bV K c 2 96 288 23 24 rfl rfl rfl rfl _ (d24 c) (oy2 c) (ow2 c) (pf := fun v w => k0_pay33 v w) y33 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step3 aV bV K c 3 96 288 24 25 rfl rfl rfl rfl _ (d25 c) (oy3 c) (ow3 c) (pf := fun v w => k0_pay34 v w) y34 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step3 aV bV K c 4 64 192 25 26 rfl rfl rfl rfl _ (d26 c) (oy4 c) (ow4 c) (pf := fun v w => k0_pay37 (k0_pay35 v w) (k0_pay36 v w)) y35 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step3 aV bV K c 5 64 192 26 27 rfl rfl rfl rfl _ (d27 c) (oy5 c) (ow5 c) (pf := fun v w => k0_pay38 v w) y36 rfl rfl rfl rfl) ?_
  refine forall_intro fun _ => ?_; refine forall_intro fun _ => ?_; refine forall_intro fun _ => ?_; refine forall_intro fun _ => ?_; refine forall_intro fun _ => ?_; refine forall_intro fun _ => ?_; refine forall_intro fun _ => ?_
  refine rot (step4 aV bV K c 0 96 192 27 28 rfl rfl rfl rfl _ (d28 c) (oh0 c) rfl rfl rfl rfl) ?_
  refine forall_intro fun _ => ?_; refine forall_intro fun _ => ?_; refine forall_intro fun _ => ?_
  refine rot (step4 aV bV K c 1 96 192 28 29 rfl rfl rfl rfl _ (d29 c) (oh1 c) rfl rfl rfl rfl) ?_
  refine forall_intro fun _ => ?_; refine forall_intro fun _ => ?_; refine forall_intro fun _ => ?_
  refine rot (step4 aV bV K c 2 96 192 29 30 rfl rfl rfl rfl _ (d30 c) (oh2 c) rfl rfl rfl rfl) ?_
  refine forall_intro fun _ => ?_; refine forall_intro fun _ => ?_; refine forall_intro fun _ => ?_
  refine rot (step4 aV bV K c 3 96 192 30 31 rfl rfl rfl rfl _ (d31 c) (oh3 c) rfl rfl rfl rfl) ?_
  refine forall_intro fun _ => ?_; refine forall_intro fun _ => ?_; refine forall_intro fun _ => ?_
  refine rot (step4 aV bV K c 4 64 128 31 32 rfl rfl rfl rfl _ (d32 c) (oh4 c) rfl rfl rfl rfl) ?_
  refine forall_intro fun _ => ?_; refine forall_intro fun _ => ?_; refine forall_intro fun _ => ?_
  refine rot (step4 aV bV K c 5 64 128 32 33 rfl rfl rfl rfl _ (d33 c) (oh5 c) rfl rfl rfl rfl) ?_
  refine forall_intro fun _ => ?_; refine forall_intro fun _ => ?_; refine forall_intro fun _ => ?_
  refine rot (step5 aV bV K c 0 192 384 0 rfl rfl rfl (pf := fun v => k0_pay39 v) y39 rfl rfl rfl) ?_
  refine forall_intro fun _ => ?_; refine forall_intro fun _ => ?_; refine forall_intro fun _ => ?_; refine forall_intro fun _ => ?_; refine forall_intro fun _ => ?_; refine forall_intro fun _ => ?_
  refine rot (step5 aV bV K c 1 192 384 384 rfl rfl rfl (pf := fun v => k0_pay40 v) y40 rfl rfl rfl) ?_
  refine forall_intro fun _ => ?_; refine forall_intro fun _ => ?_; refine forall_intro fun _ => ?_; refine forall_intro fun _ => ?_; refine forall_intro fun _ => ?_; refine forall_intro fun _ => ?_
  refine rot (step5 aV bV K c 2 192 384 768 rfl rfl rfl (pf := fun v => k0_pay41 v) y41 rfl rfl rfl) ?_
  refine forall_intro fun _ => ?_; refine forall_intro fun _ => ?_; refine forall_intro fun _ => ?_; refine forall_intro fun _ => ?_; refine forall_intro fun _ => ?_; refine forall_intro fun _ => ?_
  refine rot (step5 aV bV K c 3 192 384 1152 rfl rfl rfl (pf := fun v => k0_pay42 v) y42 rfl rfl rfl) ?_
  refine forall_intro fun _ => ?_; refine forall_intro fun _ => ?_; refine forall_intro fun _ => ?_; refine forall_intro fun _ => ?_; refine forall_intro fun _ => ?_; refine forall_intro fun _ => ?_
  refine rot (step5 aV bV K c 4 128 256 1536 rfl rfl rfl (pf := fun v => k0_pay43 v) y43 rfl rfl rfl) ?_
  refine forall_intro fun _ => ?_; refine forall_intro fun _ => ?_; refine forall_intro fun _ => ?_; refine forall_intro fun _ => ?_; refine forall_intro fun _ => ?_; refine forall_intro fun _ => ?_
  refine rot (step5 aV bV K c 5 128 256 1792 rfl rfl rfl (pf := fun v => k0_pay44 v) y44 rfl rfl rfl) ?_
  refine forall_intro fun _ => ?_; refine forall_intro fun _ => ?_; refine forall_intro fun _ => ?_; refine forall_intro fun _ => ?_; refine forall_intro fun _ => ?_; refine forall_intro fun _ => ?_
  refine rot (step6 aV bV K c 0 384 rfl rfl) ?_
  refine forall_intro fun _ => ?_
  refine rot (step6 aV bV K c 1 384 rfl rfl) ?_
  refine forall_intro fun _ => ?_
  refine rot (step6 aV bV K c 2 384 rfl rfl) ?_
  refine forall_intro fun _ => ?_
  refine rot (step6 aV bV K c 3 384 rfl rfl) ?_
  refine forall_intro fun _ => ?_
  refine rot (step6 aV bV K c 4 256 rfl rfl) ?_
  refine forall_intro fun _ => ?_
  refine rot (step6 aV bV K c 5 256 rfl rfl) ?_
  refine forall_intro fun _ => ?_
  unfold WP
  rw [wp_ret]
  iintro ⟨HC, G0, G1, G2, G3, G4, G5, HB, HzB, Hk⟩
  imodintro
  iapply Hk
  unfold fin
  isplitl [HC]; · iexact HC
  isplitr [HB HzB]
  · isplitl [G0]; · iexact G0
    isplitl [G1]; · iexact G1
    isplitl [G2]; · iexact G2
    isplitl [G3]; · iexact G3
    isplitl [G4]; · iexact G4
    iexact G5
  isplitl [HB] <;> iassumption

end

end Cert.SiluProof
-- ==== Proof.Ghost.lean ====
/-
# What the launch deals

The semaphores' records, each device's positions, the duties dealt to the devices that pay them, and the credits.
-/
module

public import proofs.«01_k».proof.Proof.Body
public import proofs.«01_k».proof.Proof.Gen.KernelIdeal.Frame
public import proofs.«01_k».proof.Proof.Gen.KernelIdeal.Launch
public import Idealize.ShloMosaic.Lib.Pipeline.Launch
public import Idealize.ShloMosaic.Lib.Pipeline.Kit

@[expose] public section

noncomputable section

namespace Cert.SiluProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells and the duties -/

theorem kcell_injective : Function.Injective (kcell : Dev nD × Option I → GSem nD τ sig) := by
  rintro ⟨c, o⟩ ⟨c', o'⟩ h
  have h1 : c = c' := congrArg (fun g : GSem nD τ sig => g.1.1) h
  have h2 : csem o = csem o' := congrArg Prod.snd h
  subst h1
  cases o with
  | none => cases o' with
    | none => rfl
    | some i => exact absurd h2 (fun h => by cases h)
  | some i => cases o' with
    | none => exact absurd h2 (fun h => by cases h)
    | some j =>
      have h3 : semI i = semI j := by
        have : (SemLoc.dma (semI i) : SemLoc sig) = .dma (semI j) := h2
        exact SemLoc.dma.inj this
      rw [semI_inj h3]

def allCells : Finset (GSem nD τ sig) := Finset.univ.map ⟨kcell, kcell_injective⟩

/-- The semaphore and the number of a duty. -/
def ko (s : St) : Option I := match s with | .inl _ => none | .inr i => some i
def dn (s : St) : Fin 3 := match s with | .inl d => d | .inr _ => 0

theorem ko_dn {s s' : St} (h : ko s = ko s') (h' : dn s = dn s') : s = s' := by
  cases s with
  | inl d => cases s' with
    | inl d' => exact congrArg Sum.inl h'
    | inr i => exact absurd h (fun h => by cases h)
  | inr i => cases s' with
    | inl d' => exact absurd h (fun h => by cases h)
    | inr j => exact congrArg Sum.inr (Option.some.inj h)

/-- A duty of a device's own semaphores. -/
abbrev tokOf (p : Dev nD × St) : GSem nD τ sig × ℕ × Fin 3 := (kcell (p.1, ko p.2), 0, dn p.2)
theorem tokOf_injective : Function.Injective tokOf := by
  rintro ⟨c, s⟩ ⟨c', s'⟩ h
  have h1 := kcell_injective (congrArg Prod.fst h)
  have h2 : dn s = dn s' := congrArg (fun x : GSem nD τ sig × ℕ × Fin 3 => x.2.2) h
  have h3 : c = c' := congrArg Prod.fst h1
  have h4 : ko s = ko s' := congrArg Prod.snd h1
  rw [h3, ko_dn h4 h2]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The semaphores of the transfers. -/
def osem (i : I) : SemLoc sig := .dma (semI i)

section

variable (aV bV : Dev nD → ℕ → ℕ → Elt F .f32)

/-- The duties of a device's own semaphores, and the duties a device pays. -/
def toks (c : Dev nD) : sProp 𝕄 := bigSep Finset.univ fun s : St => dutyTok ER (kcell (c, ko s)) 0 (dn s)
def payToks (c : Dev nD) : sProp 𝕄 := bigSep Finset.univ fun s : St => dutyTok ER (tgtCell c s) 0 (dn s)

/-- A device's positions. -/
def poss (c : Dev nD) : sProp 𝕄 := bigSep Finset.univ fun o : Option I => atPos ER (kcell (c, o)) 0 ∅ 0

/-- What the launch element deals a device. -/
def G (c : Dev nD) : sProp 𝕄 :=
  iprop((bigSep Finset.univ fun o : Option I => roundState ER (Rd (F := F) aV bV) (kcell (c, o)) 0)
    ∗ poss c ∗ (bigSep Finset.univ fun o : Option I => reached ER (kcell (c, o)) 0) ∗ toks c)

/-- What a device starts from. -/
def G' (c : Dev nD) : sProp 𝕄 := iprop(∃ K, bigSep Finset.univ (inv1 (F := F) aV bV K) ∗ poss c ∗ payToks c)

theorem bigSep_option (Φ : Option I → sProp 𝕄) :
    bigSep Finset.univ Φ = iprop(Φ none ∗ bigSep Finset.univ fun i : I => Φ (some i)) := by
  rw [bigSep_univ_at Φ none]
  have h : (Finset.univ.erase none : Finset (Option I)) = Finset.univ.map ⟨some, Option.some_injective I⟩ := by
    ext x; cases x <;> simp
  rw [h, bigSep_map]; rfl

theorem fund_all : BI.own (ER (initOf allCells allToks)) ⊢ (|==> bigSep Finset.univ (G (F := F) aV bV) : sProp 𝕄) := by
  have hX (Φ : GSem nD τ sig → sProp 𝕄) : bigSep allCells Φ
      = bigSep Finset.univ fun c : Dev nD => bigSep Finset.univ fun o : Option I => Φ (kcell (c, o)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd (F := F) aV bV) allCells allToks) $$ HX with ⟨Hst, Hr, Hat, Htok⟩
  imodintro
  ihave Hst := (Entails.of_eq (hX fun g => roundState ER (Rd (F := F) aV bV) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G poss; simp only [bigSep_sep']
  isplitl [Hst]; · iexact Hst
  isplitl [Hat]; · iexact Hat
  isplitl [Hr] <;> iassumption

theorem unscopedSems0_eq (c : Dev nD) : (unscopedSems0 c : sProp 𝕄) = semVal (cellB c) 0 := by
  unfold unscopedSems0; rw [bigSep_eq_bigSepL_of_eq [SemLoc.reg barS] (by decide +kernel) (by decide +kernel)]; rfl

theorem sems0_intro (c : Dev nD) :
    iprop(Pipeline.ownSems0 (Ix := Unit) (Name := ℕ) (U := UU) (Lvl := ℕ) (Val := Elt F) (τ := τ) osem c ∗ unscopedSems0 c)
      ⊢ (bigSep Finset.univ fun o : Option I => semVal (kcell (c, o)) 0 : sProp 𝕄) := by
  rw [unscopedSems0_eq, bigSep_option]
  unfold Pipeline.ownSems0
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G (F := F) aV bV c)
      ⊢ |={Set.univ}=> iprop((bigSep Finset.univ fun o : Option I => iprop(∃ κ : ℕ, cellInv ER (Rd (F := F) aV bV) κ (kcell (c, o))))
          ∗ poss c ∗ (bigSep Finset.univ fun o : Option I => reached ER (kcell (c, o)) 0) ∗ toks c) := by
  unfold G
  iintro ⟨Hos, Hus, Hst, Hat, Hr, Htok⟩
  ihave Hv := (sems0_intro (F := F) c) $$ [Hos Hus]
  · isplitl [Hos] <;> iassumption
  imod (show iprop((bigSep Finset.univ fun o : Option I => semVal (kcell (c, o)) 0)
        ∗ bigSep Finset.univ fun o : Option I => roundState ER (Rd (F := F) aV bV) (kcell (c, o)) 0)
      ⊢ (|={Set.univ}=> bigSep Finset.univ fun o : Option I => iprop(∃ κ : ℕ, cellInv ER (Rd (F := F) aV bV) κ (kcell (c, o))) : sProp 𝕄) from by
        rw [← bigSep_sep']
        exact (bigSep_mono fun o _ => (Rounds.body_intro ER (Rd (F := F) aV bV) (kcell (c, o))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- Each device's partner in a duty, as a permutation. -/
def parE (s : St) : Dev nD ≃ Dev nD :=
  match s with
  | .inl d => ⟨par d, par d, par_par d, par_par d⟩
  | .inr i => ⟨fun c => tgt c i, fun c => tgt c i, fun c => tgt_tgt c i, fun c => tgt_tgt c i⟩

theorem toks_around : (bigSep Finset.univ fun c : Dev nD => (toks c : sProp 𝕄)) = bigSep Finset.univ fun c : Dev nD => payToks c := by
  unfold toks payToks
  rw [bigSep_univ_comm, bigSep_univ_comm (fun (c : Dev nD) (s : St) => (dutyTok ER (tgtCell c s) 0 (dn s) : sProp 𝕄))]
  refine bigSep_congr fun s _ => ?_
  rw [bigSep_univ_equiv (parE s) (fun c : Dev nD => (dutyTok ER (kcell (c, ko s)) 0 (dn s) : sProp 𝕄))]
  cases s <;> rfl

theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun o : Option I => iprop(∃ κ : ℕ, cellInv ER (Rd (F := F) aV bV) κ (kcell (c, o))))
          ∗ poss c ∗ (bigSep Finset.univ fun o : Option I => reached ER (kcell (c, o)) 0) ∗ toks c) : sProp 𝕄)
      ⊢ bigSep Finset.univ (G' (F := F) aV bV) := by
  rw [bigSep_sep', bigSep_sep', bigSep_sep', toks_around,
    ← bigSep_univ_prod (fun p : Dev nD × Option I => iprop(∃ κ : ℕ, cellInv ER (Rd (F := F) aV bV) κ (kcell p))),
    ← bigSep_univ_prod (fun p : Dev nD × Option I => (reached ER (kcell p) 0 : sProp 𝕄))]
  iintro ⟨HI, Hat, HR, Htok⟩
  ihave HK := (BI.bigSep_exists_pi Finset.univ (fun (p : Dev nD × Option I) (κ : ℕ) => (cellInv ER (Rd (F := F) aV bV) κ (kcell p) : sProp 𝕄))) $$ HI
  icases HK with ⟨%K, HI⟩
  ihave #HV := (show iprop((bigSep Finset.univ fun p : Dev nD × Option I => cellInv ER (Rd (F := F) aV bV) (K p) (kcell p))
      ∗ bigSep Finset.univ fun p : Dev nD × Option I => (reached ER (kcell p) 0 : sProp 𝕄)) ⊢ bigSep Finset.univ (inv1 (F := F) aV bV K) from by
    rw [← bigSep_sep']; exact BIBase.Entails.rfl) $$ [HI HR]
  · isplitl [HI] <;> iassumption
  iapply (with_persistent (R := bigSep Finset.univ (inv1 (F := F) aV bV K)) (Φ := fun c : Dev nD => iprop(poss c ∗ payToks c)) (fun c _ => by
    unfold G'
    iintro ⟨H, H'⟩
    iexists K
    isplitl [H] <;> iassumption))
  isplitr; · iexact HV
  rw [bigSep_sep']
  isplitl [Hat] <;> iassumption

theorem glob : (bigSep Finset.univ fun c => iprop(Pipeline.ownSems0 (Ix := Unit) (Name := ℕ) (U := UU) (Lvl := ℕ) (Val := Elt F) (τ := τ) osem c
      ∗ unscopedSems0 c ∗ G (F := F) aV bV c) : sProp 𝕄)
    ⊢ |={Set.univ}=> bigSep Finset.univ (G' (F := F) aV bV) :=
  ((bigSep_mono fun c _ => core_alloc aV bV c).trans (bigSep_fupd _ _)).trans (BI.fupd_mono (regroup aV bV))

end

/-! ## The credits -/

/-- What a device owes at entry. -/
def O₀ (c : Dev nD) : CellTallies nD τ sig Unit := owedL c (tl 0)

theorem cellI_eq {c d : Dev nD} {i j : I} (h : cellI c i = cellI d j) : c = d ∧ i = j :=
  ⟨congrArg (fun g : GSem nD τ sig => g.1.1) h, semI_inj (SemLoc.dma.inj (congrArg Prod.snd h))⟩
theorem cellB_eq {c d : Dev nD} (h : cellB c = cellB d) : c = d := congrArg (fun g : GSem nD τ sig => g.1.1) h
theorem cellB_ne {c d : Dev nD} {i : I} (h : cellI c i = cellB d) : False :=
  absurd (congrArg Prod.snd h) (fun h => by cases h)

theorem tgt_swap {c d : Dev nD} {i : I} : Iff (tgt d i = c) (d = tgt c i) :=
  ⟨fun h => by rw [← h, tgt_tgt], fun h => by rw [h, tgt_tgt]⟩
theorem par_swap {c d : Dev nD} {e : Fin 3} : Iff (par e d = c) (d = par e c) :=
  ⟨fun h => by rw [← h, par_par], fun h => by rw [h, par_par]⟩

theorem tally_I (d c : Dev nD) (s : St) (i : I) :
    tallyAt (tgtCell d s) () (amtS s) (cellI c i) () = if d = tgt c i then (if s = .inr i then amt i else 0) else 0 := by
  cases s with
  | inl e =>
    rw [show tallyAt (tgtCell d (.inl e)) () (amtS (.inl e)) (cellI c i) = 0 from tallyAt_ne_cell (fun h => cellB_ne h) _ _,
      if_neg (by simp : ¬ (Sum.inl e : St) = .inr i)]
    simp
  | inr j =>
    by_cases h : tgtCell d (.inr j) = cellI c i
    · obtain ⟨h1, h2⟩ := cellI_eq h
      subst h2
      rw [h, if_pos (tgt_swap.mp h1), if_pos rfl, tallyAt_apply, if_pos ⟨rfl, rfl⟩]; rfl
    · rw [tallyAt_ne_cell (fun h' => h h'.symm)]
      by_cases hd : d = tgt c i
      · have : ¬ (Sum.inr j : St) = .inr i := fun hj => h (by
          have hj := Sum.inr.inj hj
          subst hj; show cellI (tgt d j) j = _; rw [tgt_swap.mpr hd])
        rw [if_pos hd, if_neg this]; rfl
      · rw [if_neg hd]; rfl

theorem owed_I (d c : Dev nD) (i : I) (l : List St) :
    owedL d l (cellI c i) () = if d = tgt c i then (l.map fun s => if s = .inr i then amt i else 0).sum else 0 := by
  induction l with
  | nil => simp [owedL]
  | cons s l ih =>
    rw [owedL, Pi.add_apply, Finsupp.add_apply, ih, tally_I]
    split
    · rw [List.map_cons, List.sum_cons, Nat.add_comm]
    · rfl

theorem tally_B (d c : Dev nD) (s : St) :
    tallyAt (tgtCell d s) () (amtS s) (cellB c) () = match s with | .inl e => if d = par e c then 1 else 0 | .inr _ => 0 := by
  cases s with
  | inr i => rw [show tallyAt (tgtCell d (.inr i)) () (amtS (.inr i)) (cellB c) = 0 from tallyAt_ne_cell (fun h => cellB_ne h.symm) _ _]; rfl
  | inl e =>
    by_cases h : d = par e c
    · rw [show tgtCell d (.inl e) = cellB c from by show cellB (par e d) = _; rw [par_swap.mpr h], tallyAt_apply, if_pos ⟨rfl, rfl⟩]
      simp only [if_pos h]; rfl
    · rw [show tallyAt (tgtCell d (.inl e)) () (amtS (.inl e)) (cellB c) = 0 from tallyAt_ne_cell (fun h' => h (par_swap.mp (cellB_eq h').symm)) _ _]
      simp only [if_neg h]; rfl

theorem owed_B0 (d c : Dev nD) (l : List St) (hl : ∀ s ∈ l, s.isRight = true) : owedL d l (cellB c) () = 0 := by
  induction l with
  | nil => rfl
  | cons s l ih =>
    rw [owedL, Pi.add_apply, Finsupp.add_apply, ih (fun s hs => hl s (List.mem_cons_of_mem _ hs)), tally_B]
    cases s with
    | inl e => exact absurd (hl _ List.mem_cons_self) (by simp)
    | inr i => rfl

theorem owed_B (d c : Dev nD) : O₀ d (cellB c) ()
    = (if d = par 2 c then 1 else 0) + (if d = par 1 c then 1 else 0) + (if d = par 0 c then 1 else 0) := by
  show owedL d (.inl 0 :: .inl 1 :: .inl 2 :: tl 3) (cellB c) () = _
  rw [owedL, owedL, owedL, Pi.add_apply, Finsupp.add_apply, Pi.add_apply, Finsupp.add_apply, Pi.add_apply, Finsupp.add_apply,
    owed_B0 d c (tl 3) (by decide), tally_B, tally_B, tally_B]
  simp

theorem launch_B (c : Dev nD) :
    tallyOn (cellB c) (launchCredit (Pipeline.owing O₀) 0 (cellB c)) = (tallyAt (cellB c) () 3 : CellTallies nD τ sig Unit) := by
  unfold tallyAt; refine congrArg _ (Finsupp.ext fun u => ?_); cases u
  rw [Pipeline.launchCredit_owing, Finsupp.single_eq_same, Finset.sum_congr rfl fun d _ => owed_B d c, Finset.sum_add_distrib, Finset.sum_add_distrib]
  simp

/-- The kinds of transfer a device receives. -/
def ck (j : Fin 5) : Fin 11 := match j with | 0 => 3 | 1 => 4 | 2 => 5 | 3 => 8 | 4 => 9

theorem ck_inj {i j : Fin 5} (h : ck i = ck j) : i = j := by revert h; revert i j; decide

theorem sum_single (n : ℕ) (x : St) (l : List St) :
    (l.map fun s => if s = x then n else 0).sum = l.countP (fun s => decide (s = x)) * n := by
  induction l with
  | nil => simp
  | cons s l ih =>
    rw [List.map_cons, List.sum_cons, ih]
    by_cases h : s = x
    · subst h; simp [Nat.add_mul, Nat.add_comm]
    · simp [h]

theorem count_tl (g : Fin 6) (j : Fin 5) : (tl 0).countP (fun s => decide (s = .inr (g, ck j))) = 1 := by revert g j; decide

theorem launch_I (c : Dev nD) (g : Fin 6) (j : Fin 5) :
    tallyOn (cellI c (g, ck j)) (launchCredit (Pipeline.owing O₀) 0 (cellI c (g, ck j)))
      = (tallyAt (cellI c (g, ck j)) () (amt (g, ck j)) : CellTallies nD τ sig Unit) := by
  unfold tallyAt; refine congrArg _ (Finsupp.ext fun u => ?_); cases u
  rw [Pipeline.launchCredit_owing, Finsupp.single_eq_same, Finset.sum_congr rfl fun d _ => (show O₀ d (cellI c (g, ck j)) () = _ from owed_I d c (g, ck j) (tl 0)),
    Finset.sum_ite_eq' Finset.univ (tgt c (g, ck j)) fun _ => _, if_pos (Finset.mem_univ _), sum_single, count_tl, Nat.one_mul]

def ckE : Fin 6 × Fin 5 ↪ SemLoc sig :=
  ⟨fun p => .dma (semI (p.1, ck p.2)), fun p q h => by
    have h := semI_inj (SemLoc.dma.inj h)
    exact Prod.ext (congrArg (fun x : I => x.1) h) (ck_inj (congrArg (fun x : I => x.2) h))⟩

theorem bigSep_5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ
theorem bigSep_11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ

theorem creds (c : Dev nD) :
    (Pipeline.launchCred O₀ c : sProp 𝕄) ⊢ iprop(cred (tallyAt (cellB c) () 3)
      ∗ bigSep Finset.univ fun g : Fin 6 => iprop(cd c g 3 ∗ cd c g 4 ∗ cd c g 5 ∗ cd c g 8 ∗ cd c g 9)) := by
  unfold Pipeline.launchCred
  rw [bigSep_univ_at _ (SemLoc.reg barS), launch_B]
  refine sep_mono_right ?_
  refine (BI.bigSep_subset (t := Finset.univ.map ckE) (fun s hs => ?_)).trans ?_
  · obtain ⟨p, -, rfl⟩ := Finset.mem_map.mp hs
    exact Finset.mem_erase.mpr ⟨(fun h => by cases h), Finset.mem_univ _⟩
  · rw [bigSep_map, bigSep_univ_prod]
    refine bigSep_mono fun g _ => ?_
    rw [bigSep_congr (Ψ := fun j : Fin 5 => (cd c g (ck j) : sProp 𝕄)) (fun j _ => by
      show cred (tallyOn (cellI c (g, ck j)) (launchCredit (Pipeline.owing O₀) 0 (cellI c (g, ck j)))) = cd c g (ck j)
      rw [launch_I]; rfl), bigSep_5]
    exact (Entails.of_eq (PROP := sProp 𝕄) rfl)

end Cert.SiluProof
-- ==== Proof.Launch.lean ====
/-
# The run

The kernel's buffers as the launch hands them over and takes them back, the launch's data, and the run of @main: the
arguments unchanged, the result on each device given by row and column, every semaphore at zero.
-/
module

public import proofs.«01_k».proof.Proof.Ghost

@[expose] public section

noncomputable section

namespace Cert.SiluProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Whole buffers as rows -/

section Whole

variable {R C : ℕ} {c : Thread nD τ} {sp : Space} {e : EltTy}

theorem rowsAny_whole (m : Memref sig c.2.kind sp (Sh R C) e) (h : m.view.set = Finset.univ) :
    (rowsAny c m 0 R : sProp 𝕄) = iprop(∃ f : Buf (Elt F) (m.view.loc c), (m.view.loc c ↦{fullShare} f)) := by
  unfold rowsAny; rw [rowsF_all, View.setOn_univ, h]

theorem rowsAt_whole (m : Memref sig c.2.kind sp (Sh R C) e) (h : m.view.set = Finset.univ) (V : ℕ → ℕ → Elt F e) :
    (rowsAt c m 0 R V : sProp 𝕄) = iprop(∃ f : Buf (Elt F) (m.view.loc c),
      ⌜∀ x, m.view.read (Elt F) f x = V (x 0).val (x 1).val⌝ ∗ (m.view.loc c ↦{fullShare} f)) := by
  unfold rowsAt; rw [rowsF_all, View.setOn_univ, h]
  have e (f : Buf (Elt F) (m.view.loc c)) : (∀ x ∈ (Finset.univ : Finset (Sh R C).Idx), m.view.read (Elt F) f x = V (x 0).val (x 1).val)
      = ∀ x, m.view.read (Elt F) f x = V (x 0).val (x 1).val := propext ⟨fun h x => h x (Finset.mem_univ x), fun h x _ => h x⟩
  simp only [e]

theorem split6 (m : Memref sig c.2.kind sp (Sh 2048 C) e) :
    rowsAny c m 0 2048 ⊢ (bigSep Finset.univ fun g : Fin 6 => (rowsAny c m (start g) (4 * Q g)) : sProp 𝕄) := by
  rw [bigSep_6]
  iintro H
  ihave H := (rowsAny_split (c := c) m 0 384 1664) $$ H
  icases H with ⟨H0, H⟩
  ihave H := (rowsAny_split (c := c) m 384 384 1280) $$ H
  icases H with ⟨H1, H⟩
  ihave H := (rowsAny_split (c := c) m 768 384 896) $$ H
  icases H with ⟨H2, H⟩
  ihave H := (rowsAny_split (c := c) m 1152 384 512) $$ H
  icases H with ⟨H3, H⟩
  ihave H := (rowsAny_split (c := c) m 1536 256 256) $$ H
  icases H with ⟨H4, H5⟩
  isplitl [H0]; · iexact H0
  isplitl [H1]; · iexact H1
  isplitl [H2]; · iexact H2
  isplitl [H3]; · iexact H3
  isplitl [H4]; · iexact H4
  iexact H5

theorem join6 (m : Memref sig c.2.kind sp (Sh 2048 C) e) :
    (bigSep Finset.univ fun g : Fin 6 => (rowsAny c m (start g) (4 * Q g)) : sProp 𝕄) ⊢ rowsAny c m 0 2048 := by
  rw [bigSep_6]
  iintro ⟨H0, H1, H2, H3, H4, H5⟩
  ihave H := (rowsAny_join (c := c) m 1536 256 256) $$ [H4 H5]
  · isplitl [H4]; · iexact H4
    iexact H5
  ihave H := (rowsAny_join (c := c) m 1152 384 512) $$ [H3 H]
  · isplitl [H3]; · iexact H3
    iexact H
  ihave H := (rowsAny_join (c := c) m 768 384 896) $$ [H2 H]
  · isplitl [H2]; · iexact H2
    iexact H
  ihave H := (rowsAny_join (c := c) m 384 384 1280) $$ [H1 H]
  · isplitl [H1]; · iexact H1
    iexact H
  ihave H := (rowsAny_join (c := c) m 0 384 1664) $$ [H0 H]
  · isplitl [H0]; · iexact H0
    iexact H
  iexact H

theorem joinAt6 (m : Memref sig c.2.kind sp (Sh 2048 C) e) (V : ℕ → ℕ → Elt F e) :
    (bigSep Finset.univ fun g : Fin 6 => (rowsAt c m (start g) (4 * Q g) V) : sProp 𝕄) ⊢ rowsAt c m 0 2048 V := by
  rw [bigSep_6]
  iintro ⟨H0, H1, H2, H3, H4, H5⟩
  ihave H := (rowsAt_join (c := c) m 1536 256 256 V) $$ [H4 H5]
  · isplitl [H4]; · iexact H4
    iexact H5
  ihave H := (rowsAt_join (c := c) m 1152 384 512 V) $$ [H3 H]
  · isplitl [H3]; · iexact H3
    iexact H
  ihave H := (rowsAt_join (c := c) m 768 384 896 V) $$ [H2 H]
  · isplitl [H2]; · iexact H2
    iexact H
  ihave H := (rowsAt_join (c := c) m 384 384 1280 V) $$ [H1 H]
  · isplitl [H1]; · iexact H1
    iexact H
  ihave H := (rowsAt_join (c := c) m 0 384 1664 V) $$ [H0 H]
  · isplitl [H0]; · iexact H0
    iexact H
  iexact H

end Whole

theorem rM_set (g : Fin 6) : (rM g).view.set = Finset.univ := by fin_cases g <;> exact View.set_whole _

/-- A landing buffer is its three parts. -/
theorem land_split (c : Dev nD) (g : Fin 6) :
    rowsAny (c : Thread nD τ) (rM g) 0 (4 * Q g) ⊢ (iprop(win c g 0 ∗ win c g 1 ∗ win c g 2) : sProp 𝕄) := by
  have e1 : 4 * Q g = H g + (Q g + Q g) := by unfold H; omega
  have e2 : 3 * Q g = H g + Q g := by unfold H; omega
  show rowsAny (c : Thread nD τ) (rM g) 0 (4 * Q g) ⊢ iprop(rowsAny (F := F) (c : Thread nD τ) (rM g) 0 (H g) ∗ rowsAny (F := F) (c : Thread nD τ) (rM g) (H g) (Q g) ∗ rowsAny (F := F) (c : Thread nD τ) (rM g) (3 * Q g) (Q g))
  iintro Hr
  ihave Hr := (Entails.of_eq (congrArg (fun n => (rowsAny (c : Thread nD τ) (rM g) 0 n : sProp 𝕄)) e1)) $$ Hr
  ihave Hr := (rowsAny_split (c := (c : Thread nD τ)) (rM g) 0 (H g) (Q g + Q g)) $$ Hr
  icases Hr with ⟨H0, Hr⟩
  ihave Hr := (Entails.of_eq (congrArg (fun n => (rowsAny (c : Thread nD τ) (rM g) n (Q g + Q g) : sProp 𝕄)) (Nat.zero_add (H g)))) $$ Hr
  ihave Hr := (rowsAny_split (c := (c : Thread nD τ)) (rM g) (H g) (Q g) (Q g)) $$ Hr
  icases Hr with ⟨H1, H2⟩
  ihave H2 := (Entails.of_eq (congrArg (fun n => (rowsAny (c : Thread nD τ) (rM g) n (Q g) : sProp 𝕄)) e2.symm)) $$ H2
  isplitl [H0]; · iexact H0
  isplitl [H1]; · iexact H1
  iexact H2

theorem land_join (c : Dev nD) (g : Fin 6) :
    (iprop(win c g 0 ∗ win c g 1 ∗ win c g 2) : sProp 𝕄) ⊢ rowsAny (c : Thread nD τ) (rM g) 0 (4 * Q g) := by
  have e1 : 4 * Q g = H g + (Q g + Q g) := by unfold H; omega
  have e2 : 3 * Q g = H g + Q g := by unfold H; omega
  show iprop(rowsAny (F := F) (c : Thread nD τ) (rM g) 0 (H g) ∗ rowsAny (F := F) (c : Thread nD τ) (rM g) (H g) (Q g) ∗ rowsAny (F := F) (c : Thread nD τ) (rM g) (3 * Q g) (Q g)) ⊢ rowsAny (F := F) (c : Thread nD τ) (rM g) 0 (4 * Q g)
  iintro ⟨H0, H1, H2⟩
  ihave H2 := (Entails.of_eq (congrArg (fun n => (rowsAny (c : Thread nD τ) (rM g) n (Q g) : sProp 𝕄)) e2)) $$ H2
  ihave Hr := (rowsAny_join (c := (c : Thread nD τ)) (rM g) (H g) (Q g) (Q g)) $$ [H1 H2]
  · isplitl [H1]; · iexact H1
    iexact H2
  ihave Hr := (Entails.of_eq (congrArg (fun n => (rowsAny (c : Thread nD τ) (rM g) n (Q g + Q g) : sProp 𝕄)) (Nat.zero_add (H g)).symm)) $$ Hr
  ihave Hr := (rowsAny_join (c := (c : Thread nD τ)) (rM g) 0 (H g) (Q g + Q g)) $$ [H0 Hr]
  · isplitl [H0]; · iexact H0
    iexact Hr
  ihave Hr := (Entails.of_eq (congrArg (fun n => (rowsAny (c : Thread nD τ) (rM g) 0 n : sProp 𝕄)) e1.symm)) $$ Hr
  iexact Hr

/-- The step at which a group takes a dimension, as a permutation. -/
def stpE (g : Fin 6) : Fin 3 ≃ Fin 3 := ⟨stp g, ord g, ord_stp g, stp_ord g⟩

/-- What a device hands its partners at entry is its landing buffers. -/
theorem bars_intro (c : Dev nD) :
    (bigSep Finset.univ fun g : Fin 6 => iprop(win c g 0 ∗ win c g 1 ∗ win c g 2) : sProp 𝕄)
      ⊢ iprop(barPay (par 0 c) 0 ∗ barPay (par 1 c) 1 ∗ barPay (par 2 c) 2) := by
  have h : (bigSep Finset.univ fun g : Fin 6 => iprop(win c g 0 ∗ win c g 1 ∗ win c g 2) : sProp 𝕄)
      = bigSep Finset.univ fun d : Fin 3 => barPay (F := F) (par d c) d := by
    unfold barPay
    rw [bigSep_univ_comm]
    refine bigSep_congr fun g _ => ?_
    rw [← bigSep_3 (fun j : Fin 3 => (win c g j : sProp 𝕄)), bigSep_univ_equiv (stpE g)]
    refine bigSep_congr fun d _ => ?_
    rw [par_par]; rfl
  rw [h, bigSep_3]

/-- The kernel's scratch buffers, at contents not stated. -/
def scr (c : Dev nD) : sProp 𝕄 :=
  iprop(rowsAny (F := F) (c : Thread nD τ) zM 0 2048 ∗ rowsAny (F := F) (c : Thread nD τ) bbM 0 1024 ∗ rowsAny (F := F) (c : Thread nD τ) fM 0 2048
    ∗ bigSep Finset.univ fun g : Fin 6 => rowsAny (F := F) (c : Thread nD τ) (rM g) 0 (4 * Q g))

theorem scr_eq (c : Dev nD) : (Pipeline.scopedRest (Ix := Unit) (Name := ℕ) (U := UU) (Lvl := ℕ) (Val := Elt F) spec0 c : sProp 𝕄) = scr c := by
  rw [scopedRest0_eq]
  unfold scr
  rw [bigSep_6, rowsAny_whole (c := (c : Thread nD τ)) zM (View.set_whole _), rowsAny_whole (c := (c : Thread nD τ)) bbM (View.set_whole _),
    rowsAny_whole (c := (c : Thread nD τ)) fM (View.set_whole _),
    rowsAny_whole (c := (c : Thread nD τ)) (rM 0) (rM_set 0), rowsAny_whole (c := (c : Thread nD τ)) (rM 1) (rM_set 1),
    rowsAny_whole (c := (c : Thread nD τ)) (rM 2) (rM_set 2), rowsAny_whole (c := (c : Thread nD τ)) (rM 3) (rM_set 3),
    rowsAny_whole (c := (c : Thread nD τ)) (rM 4) (rM_set 4), rowsAny_whole (c := (c : Thread nD τ)) (rM 5) (rM_set 5)]

/-! ## What the body starts from and leaves -/

/-- The group of a row. -/
def grp (i : ℕ) : Fin 6 := if i < 384 then 0 else if i < 768 then 1 else if i < 1152 then 2 else if i < 1536 then 3 else if i < 1792 then 4 else 5

theorem grp_of (g : Fin 6) (i : ℕ) (h : start g ≤ i) (h' : i < start g + 4 * Q g) : grp i = g := by
  unfold grp
  fin_cases g <;> simp only [start, Q] at h h' <;> (repeat' split) <;> first | rfl | omega

/-- A group's duties, positions, semaphores at zero, and credits. -/
def tks (c : Dev nD) (g : Fin 6) : sProp 𝕄 :=
  iprop(tk c g 0 ∗ tk c g 1 ∗ tk c g 2 ∗ tk c g 3 ∗ tk c g 4 ∗ tk c g 5 ∗ tk c g 6 ∗ tk c g 7 ∗ tk c g 8 ∗ tk c g 9 ∗ tk c g 10)
def aps (c : Dev nD) (g : Fin 6) : sProp 𝕄 :=
  iprop(ap c g 0 ∗ ap c g 1 ∗ ap c g 2 ∗ ap c g 3 ∗ ap c g 4 ∗ ap c g 5 ∗ ap c g 6 ∗ ap c g 7 ∗ ap c g 8 ∗ ap c g 9 ∗ ap c g 10)
def zzs (c : Dev nD) (g : Fin 6) : sProp 𝕄 :=
  iprop(zz c g 0 ∗ zz c g 1 ∗ zz c g 2 ∗ zz c g 3 ∗ zz c g 4 ∗ zz c g 5 ∗ zz c g 6 ∗ zz c g 7 ∗ zz c g 8 ∗ zz c g 9 ∗ zz c g 10)
def cds (c : Dev nD) (g : Fin 6) : sProp 𝕄 := iprop(cd c g 3 ∗ cd c g 4 ∗ cd c g 5 ∗ cd c g 8 ∗ cd c g 9)

theorem mono6 {Φ Ψ : Fin 6 → sProp 𝕄} (h : ∀ g, Φ g ⊢ Ψ g) : bigSep Finset.univ Φ ⊢ bigSep Finset.univ Ψ := bigSep_mono fun g _ => h g

section

variable (aV bV : Dev nD → ℕ → ℕ → Elt F .f32)

/-- The result on a device, by row and column. -/
def outA (c : Dev nD) (i j : ℕ) : Elt F .f32 := outV aV bV c (grp i) i j

/-- The duties and positions of a device, group by group. -/
theorem toks_split (c : Dev nD) : (payToks c : sProp 𝕄) = iprop(
    (dutyTok ER (cellB (par 0 c)) 0 (0 : Fin 3) ∗ dutyTok ER (cellB (par 1 c)) 0 1 ∗ dutyTok ER (cellB (par 2 c)) 0 2)
    ∗ bigSep Finset.univ fun g : Fin 6 => tks c g) := by
  unfold payToks
  rw [bigSep_univ_sum, bigSep_3, bigSep_univ_prod, bigSep_congr (fun (g : Fin 6) _ => bigSep_11 (F := F) fun k : Fin 11 => _)]
  rfl

theorem poss_split (c : Dev nD) : (poss c : sProp 𝕄) = iprop(atPos ER (cellB c) 0 ∅ 0
    ∗ bigSep Finset.univ fun g : Fin 6 => aps c g) := by
  unfold poss
  rw [bigSep_option, bigSep_univ_prod, bigSep_congr (fun (g : Fin 6) _ => bigSep_11 (F := F) fun k : Fin 11 => _)]
  rfl

theorem sems_split (c : Dev nD) : (Pipeline.ownSems0 (Ix := Unit) (Name := ℕ) (U := UU) (Lvl := ℕ) (Val := Elt F) (τ := τ) osem c : sProp 𝕄)
    = bigSep Finset.univ fun g : Fin 6 => zzs c g := by
  unfold Pipeline.ownSems0
  rw [bigSep_univ_prod, bigSep_congr (fun (g : Fin 6) _ => bigSep_11 (F := F) fun k : Fin 11 => _)]
  rfl

/-- What a device's body starts from, but for its scratch buffers. -/
def begin (c : Dev nD) : sProp 𝕄 :=
  iprop((∃ K, recs (F := F) aV bV K ∗ poss c ∗ payToks c) ∗ cred (tallyAt (cellB c) () 3)
    ∗ (bigSep Finset.univ fun g : Fin 6 => cds c g)
    ∗ rowsAny (F := F) (c : Thread nD τ) oM 0 2048)

/-- What it leaves, beside them. -/
def finish (c : Dev nD) : sProp 𝕄 :=
  iprop(rowsAt (c : Thread nD τ) oM 0 2048 (outA aV bV c) ∗ semVal (cellB c) 0
    ∗ Pipeline.ownSems0 (Ix := Unit) (Name := ℕ) (U := UU) (Lvl := ℕ) (Val := Elt F) (τ := τ) osem c)

theorem inis_intro (c : Dev nD) :
    iprop(rowsAny (F := F) (c : Thread nD τ) zM 0 2048 ∗ rowsAny (F := F) (c : Thread nD τ) fM 0 2048 ∗ rowsAny (F := F) (c : Thread nD τ) oM 0 2048
      ∗ (bigSep Finset.univ fun g : Fin 6 => tks c g)
      ∗ (bigSep Finset.univ fun g : Fin 6 => aps c g)
      ∗ (bigSep Finset.univ fun g : Fin 6 => cds c g))
    ⊢ (bigSep Finset.univ fun g : Fin 6 => (ini c g : sProp 𝕄)) := by
  iintro ⟨Hz, Hf, Ho, Ht, Ha, Hc⟩
  ihave Hz := (split6 (c := (c : Thread nD τ)) zM) $$ Hz
  ihave Hf := (split6 (c := (c : Thread nD τ)) fM) $$ Hf
  ihave Ho := (split6 (c := (c : Thread nD τ)) oM) $$ Ho
  iapply (Entails.of_eq (show iprop((bigSep Finset.univ fun g : Fin 6 => rowsAny (F := F) (c : Thread nD τ) zM (start g) (4 * Q g))
      ∗ (bigSep Finset.univ fun g : Fin 6 => rowsAny (F := F) (c : Thread nD τ) fM (start g) (4 * Q g))
      ∗ (bigSep Finset.univ fun g : Fin 6 => rowsAny (F := F) (c : Thread nD τ) oM (start g) (4 * Q g))
      ∗ (bigSep Finset.univ fun g : Fin 6 => tks c g) ∗ (bigSep Finset.univ fun g : Fin 6 => aps c g) ∗ (bigSep Finset.univ fun g : Fin 6 => cds c g))
    = (bigSep Finset.univ fun g : Fin 6 => (ini c g : sProp 𝕄)) from by
      rw [← bigSep_sep', ← bigSep_sep', ← bigSep_sep', ← bigSep_sep', ← bigSep_sep']; rfl))
  isplitl [Hz]; · iexact Hz
  isplitl [Hf]; · iexact Hf
  isplitl [Ho]; · iexact Ho
  isplitl [Ht]; · iexact Ht
  isplitl [Ha]; · iexact Ha
  iexact Hc

theorem S7_out (c : Dev nD) (g : Fin 6) :
    S7 aV bV c g ⊢ (iprop(rowsAt (c : Thread nD τ) oM (start g) (4 * Q g) (outA aV bV c)
      ∗ rowsAny (F := F) (c : Thread nD τ) fM (start g) (4 * Q g) ∗ rowsAny (F := F) (c : Thread nD τ) zM (start g) (4 * Q g)
      ∗ rowsAny (F := F) (c : Thread nD τ) (rM g) 0 (4 * Q g)
      ∗ zzs c g) : sProp 𝕄) := by
  unfold S7 D5 D4 D3 D2 D1 zzs
  iintro ⟨Ho, Hf, H10, H7, H9, Hz, H6, H8, H2, H5, W2, H1, H4, W1, H0, H3, W0⟩
  isplitl [Ho]
  · iapply (rowsAt_congr (c := (c : Thread nD τ)) oM (V := outV aV bV c g) (V' := outA aV bV c) (fun i j h h' => by unfold outA; rw [grp_of g i h h'])) $$ Ho
  isplitl [Hf]; · iexact Hf
  isplitl [Hz]; · iexact Hz
  isplitl [W0 W1 W2]
  · iapply (land_join c g)
    isplitl [W0]; · iexact W0
    isplitl [W1]; · iexact W1
    iexact W2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem S7s_out (c : Dev nD) :
    (bigSep Finset.univ fun g : Fin 6 => (S7 aV bV c g : sProp 𝕄)) ⊢ (iprop((bigSep Finset.univ fun g : Fin 6 => rowsAt (c : Thread nD τ) oM (start g) (4 * Q g) (outA aV bV c))
      ∗ (bigSep Finset.univ fun g : Fin 6 => rowsAny (F := F) (c : Thread nD τ) fM (start g) (4 * Q g))
      ∗ (bigSep Finset.univ fun g : Fin 6 => rowsAny (F := F) (c : Thread nD τ) zM (start g) (4 * Q g))
      ∗ (bigSep Finset.univ fun g : Fin 6 => rowsAny (F := F) (c : Thread nD τ) (rM g) 0 (4 * Q g))
      ∗ (bigSep Finset.univ fun g : Fin 6 => zzs c g)) : sProp 𝕄) := by
  rw [← bigSep_sep', ← bigSep_sep', ← bigSep_sep', ← bigSep_sep']
  exact mono6 fun g => S7_out aV bV c g

theorem fin_out (K : Dev nD × Option I → ℕ) (c : Dev nD) :
    fin aV bV K c ⊢ (iprop(finish aV bV c ∗ scr c ∗ rowsAt (c : Thread nD τ) aM 0 2048 (aV c) ∗ rowsAt (c : Thread nD τ) bM 0 1024 (bV c) ∗ ow c (tl 33)) : sProp 𝕄) := by
  unfold fin Com finish scr
  iintro ⟨⟨-, Ha, Hbb, HO⟩, HS, Hb, HB⟩
  ihave HS := (Entails.of_eq (bigSep_6 fun g : Fin 6 => (S7 aV bV c g : sProp 𝕄)).symm) $$ HS
  ihave HS := (S7s_out aV bV c) $$ HS
  icases HS with ⟨Ho, Hf, Hz, Hr, Hs⟩
  isplitl [Ho HB Hs]
  · isplitl [Ho]; · iapply (joinAt6 (c := (c : Thread nD τ)) oM (outA aV bV c)) $$ Ho
    isplitl [HB]; · iexact HB
    rw [sems_split]; iexact Hs
  isplitl [Hz Hbb Hf Hr]
  · isplitl [Hz]; · iapply (join6 (c := (c : Thread nD τ)) zM) $$ Hz
    isplitl [Hbb]; · iapply (rowsAt_any (c := (c : Thread nD τ)) bbM 0 1024 (bbV bV c)) $$ Hbb
    isplitl [Hf]; · iapply (join6 (c := (c : Thread nD τ)) fM) $$ Hf
    iexact Hr
  isplitl [Ha]; · iexact Ha
  isplitl [Hb]; · iexact Hb
  iexact HO

/-- The body, from what the launch hands over to what it takes back. -/
theorem body_run (c : Dev nD) (Kt : PUnit → sProp 𝕄) :
    iprop((begin aV bV c ∗ scr c ∗ rowsAt (c : Thread nD τ) aM 0 2048 (aV c) ∗ rowsAt (c : Thread nD τ) bM 0 1024 (bV c) ∗ ow c (tl 0))
      ∗ ((finish aV bV c ∗ scr c ∗ rowsAt (c : Thread nD τ) aM 0 2048 (aV c) ∗ rowsAt (c : Thread nD τ) bM 0 1024 (bV c) ∗ ow c (tl 33)) -∗ Kt ⟨⟩))
    ⊢ wp frame (wpE (defs₀ (F := F)) Variants.none (c : Thread nD τ) none) Set.univ (bodyAt0 (F := F) t0_0) Kt := by
  unfold begin scr
  rw [poss_split, toks_split]
  iintro ⟨⟨⟨⟨%K, HR, ⟨HpB, Hp⟩, HtB, Ht⟩, HcB, Hc, Ho⟩, ⟨Hz, Hbb, Hf, Hr⟩, Ha, Hb, HO⟩, HK⟩
  ihave Hr := (mono6 fun g => land_split (F := F) c g) $$ Hr
  ihave Hr := (bars_intro (F := F) c) $$ Hr
  ihave Hi := (inis_intro (F := F) c) $$ [Hz Hf Ho Ht Hp Hc]
  · isplitl [Hz]; · iexact Hz
    isplitl [Hf]; · iexact Hf
    isplitl [Ho]; · iexact Ho
    isplitl [Ht]; · iexact Ht
    isplitl [Hp]; · iexact Hp
    iexact Hc
  ihave Hi := (Entails.of_eq (bigSep_6 fun g : Fin 6 => (ini c g : sProp 𝕄))) $$ Hi
  iapply (body aV bV K c Kt)
  isplitl [HR Ha Hb Hbb HO]
  · isplitl [HR]; · iexact HR
    isplitl [Ha]; · iexact Ha
    isplitl [Hb]; · iexact Hb
    isplitl [Hbb]; · iexact Hbb
    iexact HO
  isplitl [HtB]; · iexact HtB
  isplitl [Hr]; · iexact Hr
  isplitl [HcB]; · iexact HcB
  isplitl [HpB]; · iexact HpB
  isplitl [Hi]; · iexact Hi
  iintro H
  iapply HK
  ihave H := (fin_out aV bV K c) $$ H
  unfold scr
  iexact H

end

end Cert.SiluProof
-- ==== Proof.Run.lean ====
/-
# The run of @main

The launch's data and its side conditions, and the run: the arguments unchanged, the result on each device given by row
and column, every semaphore at zero.
-/
module

public import proofs.«01_k».proof.Proof.Launch
public import Idealize.ShloMosaic.Lib.Pipeline.CollectiveSegs

@[expose] public section

noncomputable section

namespace Cert.SiluProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The blocks of the operands on a device, as staged, and by row and column. -/
def aS (c : Dev nD) : (Sh 2048 1024).Idx → Elt F .f32 := iblk m c 0 t0_0
def bS (c : Dev nD) : (Sh 1024 2048).Idx → Elt F .f32 := iblk m c 1 t0_0
def aF (c : Dev nD) (i j : ℕ) : Elt F .f32 := byRow (by decide) (by decide) (aS m c) i j
def bF (c : Dev nD) (i j : ℕ) : Elt F .f32 := byRow (by decide) (by decide) (bS m c) i j

/-- The launch's data: the operands' blocks stay in place. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aS m c
    | ⟨1, _⟩ => bS m c
  Φ t := match t with
    | ⟨0, _⟩ => iprop(begin (aF m) (bF m) c ∗ scr c)
    | ⟨_ + 1, _⟩ => iprop(finish (aF m) (bF m) c ∗ scr c)
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem before_a (c : Dev nD) (t : Fin cfg0.N) (d) : (dats m ρ 0 c).before 0 t d = iblk m c 0 t :=
  ((dats m ρ 0 c).before_in_eq_fetched 0 rfl (fun _ => rfl) (fun _ _ _ => rfl) (fun t => by rw [fin_N0 t]; rfl) t d).trans rfl
theorem before_b (c : Dev nD) (t : Fin cfg0.N) (d) : (dats m ρ 0 c).before 1 t d = iblk m c 1 t :=
  ((dats m ρ 0 c).before_in_eq_fetched 1 rfl (fun _ => rfl) (fun _ _ _ => rfl) (fun t => by rw [fin_N0 t]; rfl) t d).trans rfl

/-- A staging buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_a (c : Dev nD) : (stg c cc0_stg0_0 (aS m c) : sProp 𝕄) = rowsAt (c : Thread nD τ) aM 0 2048 (aF m c) := by
  rw [rowsAt_whole (c := (c : Thread nD τ)) aM (View.set_whole _)]
  have e (f : Buf (Elt F) ((c : Thread nD τ).loc cc0_stg0_0)) : (f = aS m c)
      = ∀ x, aM.view.read (Elt F) f x = aF m c (x 0).val (x 1).val := by
    refine propext ⟨fun h x => ?_, fun h => funext fun x => ?_⟩
    · unfold aF; rw [byRow_self, h]; rfl
    · have := h x; unfold aF at this; rw [byRow_self] at this; exact this
  unfold stg; simp only [e]
theorem stg_b (c : Dev nD) : (stg c cc0_stg1_0 (bS m c) : sProp 𝕄) = rowsAt (c : Thread nD τ) bM 0 1024 (bF m c) := by
  rw [rowsAt_whole (c := (c : Thread nD τ)) bM (View.set_whole _)]
  have e (f : Buf (Elt F) ((c : Thread nD τ).loc cc0_stg1_0)) : (f = bS m c)
      = ∀ x, bM.view.read (Elt F) f x = bF m c (x 0).val (x 1).val := by
    refine propext ⟨fun h x => ?_, fun h => funext fun x => ?_⟩
    · unfold bF; rw [byRow_self, h]; rfl
    · have := h x; unfold bF at this; rw [byRow_self] at this; exact this
  unfold stg; simp only [e]

def bodyPre (c : Dev nD) : sProp 𝕄 :=
  iprop((begin (aF m) (bF m) c ∗ scr c) ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop((finish (aF m) (bF m) c ∗ scr c) ∗ (dats m ρ 0 c).owesAt () t0_0.succ
    ∗ stg c cc0_stg0_0 ((dats m ρ 0 c).after (0 : Fin 2) t0_0)
    ∗ stg c cc0_stg1_0 ((dats m ρ 0 c).after (1 : Fin 2) t0_0))

theorem owes_in (c : Dev nD) : (dats m ρ 0 c).owesAt () t0_0.castSucc ⊢ (ow c (tl 0) : sProp 𝕄) := by
  unfold Dat.owesAt Pipeline.owesWithin ow
  iintro ⟨%W, -, H⟩
  iexists W; iexact H
theorem owes_out (c : Dev nD) : (ow c (tl 33) : sProp 𝕄) ⊢ (dats m ρ 0 c).owesAt () t0_0.succ := by
  unfold Dat.owesAt Pipeline.owesWithin ow
  rw [show owedL c (tl 33) = 0 from rfl, show (dats m ρ 0 c).owed t0_0.succ = 0 from rfl]
  iintro ⟨%W, H⟩
  iexists W
  isplitr; · ipureintro; exact fun _ _ => Or.inl trivial
  iexact H

theorem body_ok (c : Dev nD) : bodyPre m ρ c ⊢ wp frame (wpE (defs₀ (F := F)) Variants.none (c : Thread nD τ) none) Set.univ
    (bodyAt0 (F := F) t0_0) (fun _ => bodyPost m ρ c) := by
  unfold bodyPre
  iintro ⟨⟨Hb, Hs⟩, HO, ⟨%d0, H0⟩, ⟨%d1, H1⟩⟩
  ihave H0 := (Entails.of_eq ((congrArg (fun X => (stg c cc0_stg0_0 X : sProp 𝕄)) (before_a m ρ c t0_0 d0)).trans (stg_a m c))) $$ H0
  ihave H1 := (Entails.of_eq ((congrArg (fun X => (stg c cc0_stg1_0 X : sProp 𝕄)) (before_b m ρ c t0_0 d1)).trans (stg_b m c))) $$ H1
  ihave HO := (owes_in m ρ c) $$ HO
  iapply (body_run (aF m) (bF m) c (fun _ => bodyPost m ρ c))
  isplitl [Hb Hs HO H0 H1]
  · isplitl [Hb]; · iexact Hb
    isplitl [Hs]; · iexact Hs
    isplitl [H0]; · iexact H0
    isplitl [H1]; · iexact H1
    iexact HO
  iintro ⟨Hf, Hs, H0, H1, HO⟩
  ihave H0 := (Entails.of_eq (stg_a m c).symm) $$ H0
  ihave H1 := (Entails.of_eq (stg_b m c).symm) $$ H1
  ihave HO := (owes_out m ρ c) $$ HO
  unfold bodyPost
  isplitl [Hf Hs]
  · isplitl [Hf] <;> iassumption
  isplitl [HO]; · iexact HO
  isplitl [H0]; · iexact H0
  iexact H1

set_option maxRecDepth 100000 in
theorem body_obligation (c : Dev nD) : BodyObligation (dats (F := F) m ρ 0 c) (defs₀ (F := F)) Variants.none () Set.univ := fun t => by
  rw [fin_N0 t]
  rw [bigSep_W, bigSep_W]
  have h0 := fun X => owns_whole_eq (Ix := Unit) (Name := ℕ) (U := UU) (Lvl := ℕ) (Val := Elt F) (c : Thread nD τ) cc0_stg0_0 fullShare X
  have h1 := fun X => owns_whole_eq (Ix := Unit) (Name := ℕ) (U := UU) (Lvl := ℕ) (Val := Elt F) (c : Thread nD τ) cc0_stg1_0 fullShare X
  simp only [owns_whole_eq]
  exact body_ok m ρ c

/-! ## The launch's side conditions -/

theorem ownSemFacts : Pipeline.OwnSemFacts cfg0.spec osem := by decide +kernel

theorem share_eq (c : Dev nD) (w : Fin cfg0.W) : (dats m ρ 0 c).share w = fullShare := by unfold Dat.share; split <;> rfl

theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (aF m) (bF m) c)
      ⊢ |={Set.univ}=> iprop(begin (aF m) (bF m) c ∗ emp) := by
  rw [Pipeline.unscopedRestP_none, show (Pipeline.unscopedRest (Ix := Unit) (Name := ℕ) (U := UU) (Lvl := ℕ) cfg0.spec c (fun b => m ((c : Thread nD τ).loc b)) : sProp 𝕄)
    = _ from unscopedRest0_eq c _]
  iintro ⟨Ho, Hlev, Hcr, -, HG⟩
  ihave Hc := (creds (F := F) c) $$ Hcr
  icases Hc with ⟨HB, Hc⟩
  imodintro
  unfold begin G'
  isplitl
  · icases HG with ⟨%K, HI, Hp, Ht⟩
    isplitl [HI Hp Ht Hlev]
    · iexists K
      isplitl [HI Hlev]
      · unfold recs
        isplitl [HI] <;> iassumption
      isplitl [Hp] <;> iassumption
    isplitl [HB]; · iexact HB
    isplitl [Hc]; · iexact Hc
    iapply (Entails.of_eq (rowsAny_whole (c := (c : Thread nD τ)) oM (View.set_whole _)).symm)
    iexists _; iexact Ho
  · iempintro

theorem phi0_intro (c : Dev nD) :
    iprop(begin (aF m) (bF m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(begin (aF m) (bF m) c ∗ scr c) from rfl,
    show (Pipeline.scopedRest (Ix := Unit) (Name := ℕ) (U := UU) (Lvl := ℕ) (Val := Elt F) cfg0.spec c : sProp 𝕄) = _ from scr_eq c]
  iintro ⟨Hs, -, Hr⟩
  isplitl [Hs] <;> iassumption

/-- What the run leaves on a device outside the kernel. -/
def after (c : Dev nD) : sProp 𝕄 := iprop(rowsAt (c : Thread nD τ) oM 0 2048 (outA (aF m) (bF m) c) ∗ unscopedSems0 c)

theorem phi1_exit (c : Dev nD) :
    (dats m ρ 0 c).Φ (Fin.last cfg0.N) ⊢ iprop(after m c ∗ Pipeline.ownSems0 osem c ∗ Pipeline.scopedRest cfg0.spec c) := by
  rw [show (dats m ρ 0 c).Φ (Fin.last cfg0.N) = iprop(finish (aF m) (bF m) c ∗ scr c) from rfl,
    show (Pipeline.scopedRest (Ix := Unit) (Name := ℕ) (U := UU) (Lvl := ℕ) (Val := Elt F) cfg0.spec c : sProp 𝕄) = _ from scr_eq c]
  unfold after finish
  rw [unscopedSems0_eq]
  iintro ⟨⟨Ho, HB, Hs⟩, Hr⟩
  isplitl [Ho HB]
  · isplitl [Ho] <;> iassumption
  isplitl [Hs] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_list c _ (tl 0) 0 (by clear ht; revert c; fin_cases w <;> fin_cases s <;> decide) (by decide)
    · exact mayWait_list c _ [] 0 (by clear ht; revert c; fin_cases w <;> fin_cases s <;> decide) (by decide)

/-! ## The run -/

/-- The result on a device. -/
def outBuf (c : Dev nD) : Buf (Elt F) ((c : Thread nD τ).loc main_v1) := fun x : (Sh 2048 2048).Idx => outA (aF m) (bF m) c (x 0).val (x 1).val

def QY (c : Dev nD) (s : MemSt nD τ sig (Elt F)) : Prop :=
  s.mem ((c : Thread nD τ).loc main_v1) = outBuf m c ∧ ∀ sm : SemLoc sig, sm.isScoped .tc = false → s.sem ((c.tc : Thread nD τ), sm) = 0

theorem after_buf (c : Dev nD) : after m c ⊢ (iprop((((c : Thread nD τ).loc main_v1) ↦{fullShare} outBuf m c) ∗ unscopedSems0 c) : sProp 𝕄) := by
  unfold after
  rw [rowsAt_whole (c := (c : Thread nD τ)) oM (View.set_whole _)]
  iintro ⟨⟨%f, %hf, H⟩, Hs⟩
  have e : f = outBuf m c := funext fun x => hf x
  isplitl [H]
  · iapply (Entails.of_eq (congrArg (fun f => (((c : Thread nD τ).loc main_v1) ↦{fullShare} f : sProp 𝕄)) e)) $$ H
  · iexact Hs

set_option maxRecDepth 100000 in
/-- From any memory with zero counters, for any float values, every weakly fair execution of @main on the eight devices
    terminates with the arguments unchanged, the result on each device `outBuf`, and every semaphore at zero. -/
theorem run_main : θ_run defs (onTc (τ := τ) (main (F := F))) (s₀ m ρ) (fun r =>
    (∀ c : Dev nD, r.2.mem ((c : Thread nD τ).loc main_v1) = outBuf m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (aF m) (bF m)) (G' := G' (aF m) (bF m)) (u₀ := u₀)
    (hu₀ := by
      unfold u₀
      iintro Hu
      ihave H := (ownU_pair _ _) $$ Hu
      icases H with ⟨HP, HX⟩
      imod (fund_all (aF m) (bF m)) $$ HX with HG
      imodintro
      isplitl [HP] <;> iassumption)
    (hglob := glob (aF m) (bF m))
    (hA := fun _ _ => rfl) (hpf := fun _ k => k.elim0)
    (X := begin (aF m) (bF m)) (Y := after m) (Z := fun _ => iprop(emp))
    (hX := begin_intro m ρ) (hin := phi0_intro m ρ) (hout := phi1_exit m ρ)
    (QY := QY m)
    (hY := fun c s' => by
      iintro ⟨Hu, -, HSI⟩
      ihave Hu := (after_buf m c) $$ Hu
      icases Hu with ⟨H0, Hs⟩
      icombine HSI H0 gives %h0
      imod (Pipeline.unscopedSems0_read (X := unscopedSems0 c) (c := c) fupd_intro s') $$ [Hs HSI] with ⟨%hs, HSI⟩
      · isplitl [Hs] <;> iassumption
      imodintro
      isplitr; · ipureintro; exact ⟨Buf.eq_of_forall_mem_univ h0, hs⟩
      iexact HSI)
    (hQ := fun _ h hs => ⟨fun c => ⟨(h c).2.2.1,
      ((h c).1 0).trans ((dats m ρ 0 c).arrAt_in 0 rfl _), ((h c).1 1).trans ((dats m ρ 0 c).arrAt_in 1 rfl _)⟩,
      sem_eq_zero hs fun c => (h c).2.2.2⟩)

end Cert.SiluProof
-- ==== Proof.Equation.lean ====
/-
# The kernel's result over the reals

Over the reals every change of format is the identity, so a device's own product is a plain sum over its 1024 columns,
the three steps of a group add up the products of all eight devices, and the result is the reference's.
-/
module

public import proofs.«01_k».proof.Defs
public import proofs.«01_k».proof.Proof.Run
public import Idealize.ShloMosaic.Lib.StackMember

@[expose] public section

noncomputable section

namespace Cert.SiluProof

open Cert.KernelIdeal Cert.KernelIdeal.Gen
open Idealize.ShloMosaic
open Idealize.SL Idealize.SL.Sem
open Idealize.ShloMosaic.ValueIdx
open scoped BigOperators

/-- Over the reals, the logistic unit of a value. -/
def siluR (z : EReal) : EReal := FloatOps.divf (F := Ideal) (φ := .f32) z
  (FloatOps.addf (F := Ideal) (φ := .f32) (Scalar.ofBits (F := Ideal) .f32 0x3F800000#32) (FloatOps.exp (F := Ideal) (φ := .f32) (-z)))

theorem siluS_ideal (z : Ideal .f32) : siluS (F := Ideal) z = siluR z := by
  have h : (FloatOps.subf (F := Ideal) (φ := .f32) (Scalar.ofBits .f32 0x00000000#32) z) = (-z : EReal) := by
    show Ideal.ofBits .f32 0x00000000#32 - z = -z
    rw [Ideal.ofBits_zero_f32, zero_sub]
  unfold siluS siluR
  rw [h]

/-- The sum of the devices' products. -/
def tot (T : Dev nD → EReal) : EReal := ∑ c : Dev nD, T c

/-- The eight devices a group's three steps add up, whoever adds them, are all of them. -/
theorem all_perm : ∀ (g : Fin 6) (c : Dev nD), [c, pr g 0 c, pr g 1 c, pr g 0 (pr g 1 c), pr g 2 c, pr g 0 (pr g 2 c),
    pr g 1 (pr g 2 c), pr g 0 (pr g 1 (pr g 2 c))].Perm (List.finRange 8) := by decide

theorem tot_eq (T : Dev nD → EReal) (g : Fin 6) (c : Dev nD) :
    ((T c + T (pr g 0 c)) + (T (pr g 1 c) + T (pr g 0 (pr g 1 c))))
      + ((T (pr g 2 c) + T (pr g 0 (pr g 2 c))) + (T (pr g 1 (pr g 2 c)) + T (pr g 0 (pr g 1 (pr g 2 c))))) = tot T := by
  unfold tot
  rw [Fin.sum_univ_def, ← ((all_perm g c).map T).sum_eq]
  simp only [List.map_cons, List.map_nil, List.sum_cons, List.sum_nil, add_zero, add_assoc]

section

variable (aV bV : Dev nD → ℕ → ℕ → Elt Ideal .f32)

/-- A device's product at a row and a column. -/
def prod (i j : ℕ) (c : Dev nD) : EReal := ∑ k : Fin 1024, (aV c i k.val : EReal) * (bV c k.val j : EReal)

theorem grp_mem (i : ℕ) (hi : i < 2048) : start (grp i) ≤ i ∧ i < start (grp i) + 4 * Q (grp i) := by
  unfold grp
  (repeat' split) <;> simp only [start, Q] <;> omega

theorem V0_ideal (c : Dev nD) (g : Fin 6) (i j : ℕ) (hi : start g ≤ i) (hj : j < 2048) :
    V0 (F := Ideal) aV bV c g i j = prod aV bV i j c := by
  have hp : 0 < H g := Nat.mul_pos (by decide) (Q_pos g)
  have e (n : ℕ) (v : (⟨2, ![n, 1024]⟩ : Shape).Idx → Elt Ideal .f32) (w : (⟨2, ![1024, 2048]⟩ : Shape).Idx → Elt Ideal .bf16) (r : Fin n) (s : Fin 2048) :
      dotG (F := Ideal) n v w (ValueIdx.ix2 r s) = ∑ k : Fin 1024, (v (ValueIdx.ix2 r k) : EReal) * (w (ValueIdx.ix2 k s) : EReal) := by
    show FloatOps.matmul (F := Ideal) (DotDims.plain n 1024 2048) none (φ₁ := .bf16) (φ₂ := .bf16) v w (constant ⟨2, ![n, 2048]⟩ .f32 0x00000000#32) (ValueIdx.ix2 r s) = _
    rw [Ideal.matmul_plain_apply]
    show Ideal.ofBits .f32 0x00000000#32 + _ = _
    rw [Ideal.ofBits_zero_f32, zero_add]
  unfold V0 ixN
  rw [e]
  unfold prod
  refine Finset.sum_congr rfl fun k _ => ?_
  show aV c (start g + (i - start g) / H g * H g + (i - start g) % H g % H g) k.val * bV c (0 + k.val) (j % 2048) = _
  rw [Nat.mod_mod, Nat.add_assoc, Nat.div_add_mod', Nat.add_sub_cancel' hi, Nat.zero_add, Nat.mod_eq_of_lt hj]

/-- The result: the logistic unit of the sum of the devices' products. -/
theorem outA_ideal (c : Dev nD) (i j : ℕ) (hi : i < 2048) (hj : j < 2048) :
    outA (F := Ideal) aV bV c i j = siluR (tot (prod aV bV i j)) := by
  have hg := (grp_mem i hi).1
  show siluS (F := Ideal) _ = _
  rw [siluS_ideal]
  refine congrArg siluR ?_
  rw [← tot_eq _ (grp i) (own c (grp i) i)]
  simp only [← V0_ideal aV bV _ (grp i) i j hg hj]
  rfl

end

/-! ## What the devices hold -/

variable (m : (ℓ : Loc nD τ sig) → Buf (Elt Ideal) ℓ)

/-- The blocks of the operands start at their arrays' first element. -/
theorem idx0 : ∀ t : Fin cfg0.N, win0_0.index t = ![0, 0] ∧ win0_1.index t = ![0, 0] :=
  (by decide +kernel : ∀ t : Fin grid0.N, _)

theorem aS_eq (c : Dev nD) : aS m c = m ((c.tc : Thread nD τ).loc main_arg0) := by
  funext x
  show m ((c.tc : Thread nD τ).loc main_arg0) (((cfg0.win 0).blk t0_0).view.emb x) = _
  refine congrArg (m ((c.tc : Thread nD τ).loc main_arg0)) (funext fun a => Fin.ext ?_)
  have h := (idx0 t0_0).1
  match a with
  | ⟨0, _⟩ => show win0_0.index t0_0 (0 : Fin 2) * 2048 + 1 * (x 0).val = (x 0).val; rw [h]; simp
  | ⟨1, _⟩ => show win0_0.index t0_0 (1 : Fin 2) * 1024 + 1 * (x 1).val = (x 1).val; rw [h]; simp
theorem bS_eq (c : Dev nD) : bS m c = m ((c.tc : Thread nD τ).loc main_arg1) := by
  funext x
  show m ((c.tc : Thread nD τ).loc main_arg1) (((cfg0.win 1).blk t0_0).view.emb x) = _
  refine congrArg (m ((c.tc : Thread nD τ).loc main_arg1)) (funext fun a => Fin.ext ?_)
  have h := (idx0 t0_0).2
  match a with
  | ⟨0, _⟩ => show win0_1.index t0_0 (0 : Fin 2) * 1024 + 1 * (x 0).val = (x 0).val; rw [h]; simp
  | ⟨1, _⟩ => show win0_1.index t0_0 (1 : Fin 2) * 2048 + 1 * (x 1).val = (x 1).val; rw [h]; simp

variable (A : (⟨2, ![2048, 8192]⟩ : Shape).Idx → Ideal .f32) (B : (⟨2, ![8192, 2048]⟩ : Shape).Idx → Ideal .f32)

/-- The products of the eight blocks add up to the product of the whole arrays. -/
theorem tot_prod (hA : ∀ c : Dev nD, m ((c.tc : Thread nD τ).loc main_arg0) = Layout.block ⟨2, ![2048, 1024]⟩ ⟨2, ![2048, 8192]⟩ 1 8 c A)
    (hB : ∀ c : Dev nD, m ((c.tc : Thread nD τ).loc main_arg1) = Layout.block ⟨2, ![1024, 2048]⟩ ⟨2, ![8192, 2048]⟩ 0 8 c B)
    (r s : Fin 2048) :
    tot (prod (aF m) (bF m) r.val s.val) = ∑ k : Fin 8192, (A (ValueIdx.ix2 r k) : EReal) * (B (ValueIdx.ix2 k s) : EReal) := by
  have h (f : Fin 8192 → EReal) : ∑ k, f k = ∑ c : Fin 8, ∑ k : Fin 1024, f (finProdFinEquiv (c, k)) := by
    rw [← Fintype.sum_prod_type', ← Equiv.sum_comp (finProdFinEquiv (m := 8) (n := 1024))]
  rw [h]
  unfold tot prod
  refine Finset.sum_congr rfl fun c _ => Finset.sum_congr rfl fun k _ => ?_
  unfold aF bF byRow
  rw [aS_eq, bS_eq, hA, hB, Layout.block_apply, Layout.block_apply]
  congr 2
  · funext a; apply Fin.ext
    fin_cases a
    · exact Nat.mod_eq_of_lt r.isLt
    · show c.val * 1024 + k.val % 1024 = k.val + 1024 * c.val
      rw [Nat.mod_eq_of_lt k.isLt]; omega
  · funext a; apply Fin.ext
    fin_cases a
    · show c.val * 1024 + k.val % 1024 = k.val + 1024 * c.val
      rw [Nat.mod_eq_of_lt k.isLt]; omega
    · exact Nat.mod_eq_of_lt s.isLt

theorem outBuf_ideal (hA : ∀ c : Dev nD, m ((c.tc : Thread nD τ).loc main_arg0) = Layout.block ⟨2, ![2048, 1024]⟩ ⟨2, ![2048, 8192]⟩ 1 8 c A)
    (hB : ∀ c : Dev nD, m ((c.tc : Thread nD τ).loc main_arg1) = Layout.block ⟨2, ![1024, 2048]⟩ ⟨2, ![8192, 2048]⟩ 0 8 c B)
    (c : Dev nD) (r s : Fin 2048) :
    outBuf (F := Ideal) m c (ValueIdx.ix2 r s) = siluR (∑ k : Fin 8192, (A (ValueIdx.ix2 r k) : EReal) * (B (ValueIdx.ix2 k s) : EReal)) := by
  show outA (F := Ideal) (aF m) (bF m) c r.val s.val = _
  rw [outA_ideal _ _ _ _ _ r.isLt s.isLt, tot_prod m A B hA hB]

end Cert.SiluProof
-- ==== Proof.lean ====
/-
The proof of `Cert.Claim`: the kernel and its idealization run with their arguments unchanged and every semaphore at zero,
and so does the reference; and the kernel computes the reference's result on every device.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Equation

@[expose] public section

noncomputable section

namespace Cert.Proof

open Idealize.ShloMosaic Idealize.SL.Sem

/-- The two programs run the same bodies: label by label, the texts agree. -/
theorem bodies_eq : Cert.Kernel.defs₀ (F := Bits) = Cert.KernelIdeal.defs₀ (F := Bits) := by
  unfold Cert.Kernel.defs₀ Cert.KernelIdeal.defs₀
  refine congrArg Defs.onTc (funext fun l => ?_)
  obtain rfl : l = 0 := Subsingleton.elim _ _
  rfl

/-- So do their body tables. -/
theorem tables_eq : Cert.Kernel.defs (F := Bits) = Cert.KernelIdeal.defs (F := Bits) :=
  congrArg (Pipeline.defs _) bodies_eq

/-- The kernel's frame: its run at the machine's floats. -/
theorem frame_kernel : Cert.quiescent_Kernel := fun m ρ _ => by
  have h := (θ_run Cert.KernelIdeal.defs (onTc (τ := Cert.KernelIdeal.τ) (Cert.KernelIdeal.main (F := Bits))) (s₀ m ρ)).mono
    (fun r h => (⟨fun c => (h.1 c).2, h.2⟩ : (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)) (Cert.SiluProof.run_main (F := Bits) m ρ)
  rw [tables_eq]
  exact h

/-- The idealization's. -/
theorem frame_ideal : Cert.quiescent_KernelIdeal := fun m ρ _ =>
  (θ_run Cert.KernelIdeal.defs _ _).mono (fun _ h => ⟨fun c => (h.1 c).2, h.2⟩) (Cert.SiluProof.run_main (F := Ideal) m ρ)

/-- The reference's, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result at an element: the logistic unit of the whole product. -/
theorem reference_apply (A : (⟨2, ![2048, 8192]⟩ : Shape).Idx → Ideal .f32) (B : (⟨2, ![8192, 2048]⟩ : Shape).Idx → Ideal .f32) (r s : Fin 2048) :
    (Host.divf (F := Ideal) (φ := .f32) (Host.dotGeneral (φ₁ := .f32) (φ₂ := .f32) (DotDims.plain 2048 8192 2048) none A B)
      (addf (broadcastInDim Cert.ReferenceIdeal.S2048x2048 ![] Cert.ReferenceIdeal.Gen.facts.bcast_S_S2048x2048 (constant Cert.ReferenceIdeal.S_ .f32 0x3F800000#32))
        (Host.exp (Host.negf (Host.dotGeneral (φ₁ := .f32) (φ₂ := .f32) (DotDims.plain 2048 8192 2048) none A B))))) (ValueIdx.ix2 r s)
      = Cert.SiluProof.siluR (∑ k : Fin 8192, (A (ValueIdx.ix2 r k) : EReal) * (B (ValueIdx.ix2 k s) : EReal)) := by
  rw [← StackMember.dotGeneral_plain_apply (φ₁ := .f32) (φ₂ := .f32) none A B r s]
  rfl

/-- The kernel's result is the reference's, on every device. -/
theorem algebraic : Cert.algebraic_KernelIdeal_ReferenceIdeal := by
  intro m g m' g' _ hin
  have hr := Cert.ReferenceIdeal.Value.run (F := Ideal) m' g'
  refine ⟨_, (θ_run Cert.KernelIdeal.defs _ _).mono (fun r h c => ⟨(h.1 c).1.trans ?_, (h.1 c).2⟩) (Cert.SiluProof.run_main (F := Ideal) m g),
    (θ_run Cert.ReferenceIdeal.defs _ _).mono (fun r h => h 0) hr⟩
  funext x
  rw [ValueIdx.eq_ix2 x]
  exact (Cert.SiluProof.outBuf_ideal m _ _ (fun c => (hin c).1) (fun c => (hin c).2) c (x 0) (x 1)).trans (reference_apply _ _ (x 0) (x 1)).symm

theorem claim : Cert.Claim :=
  ⟨Cert.Kernel.Gen.facts, Cert.KernelIdeal.Gen.facts, Cert.ReferenceIdeal.Gen.facts, frame_kernel, frame_ideal, frame_reference, trivial, algebraic⟩

end Cert.Proof

end
